-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_probs [hPre_finite_probs : Cert.Pre_finite_probs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_probs.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_probs [hPre_finite_probs : Cert.Pre_finite_probs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_probs.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_probs [hKernelIdeal : Cert.KernelIdeal.Facts] [hPre_finite_probs : Cert.Pre_finite_probs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_probs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_probs [hReferenceIdeal : Cert.ReferenceIdeal.Facts] [hPre_finite_probs : Cert.Pre_finite_probs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_probs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_probs [hKernelIdeal : Cert.KernelIdeal.Facts] [hReferenceIdeal : Cert.ReferenceIdeal.Facts] [hPre_finite_probs : Cert.Pre_finite_probs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_probs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_probs : Cert.Pre_finite_probs.Facts),
    quiescent_Kernel (hKernel := hKernel)
    ∧ quiescent_KernelIdeal (hKernelIdeal := hKernelIdeal)
    ∧ quiescent_KernelIdeal_pre_finite_probs (hKernelIdeal := hKernelIdeal) (hPre_finite_probs := hPre_finite_probs)
    ∧ quiescent_ReferenceIdeal (hReferenceIdeal := hReferenceIdeal)
    ∧ quiescent_ReferenceIdeal_pre_finite_probs (hReferenceIdeal := hReferenceIdeal) (hPre_finite_probs := hPre_finite_probs)
    ∧ preserves_Kernel_KernelIdeal
    ∧ algebraic_KernelIdeal_ReferenceIdeal_pre_finite_probs (hKernelIdeal := hKernelIdeal) (hReferenceIdeal := hReferenceIdeal) (hPre_finite_probs := hPre_finite_probs)
-- ==== Pre_finite_probs.lean ====
abbrev S1000000 : Shape := ⟨1, ![1000000]⟩
abbrev S_ : Shape := ⟨0, ![]⟩

class Facts : Prop where
  bcast_S_S1000000 : S_.BroadcastsInDim S1000000 (![] : Fin 0 → Fin S1000000.rank)

variable [Facts]

def fn {F : FTy → Type} [FloatOps F] (main_arg0 : FVec F S1000000 .f32) : IVec S1000000 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  main_v2
-- ==== Kernel.lean ====
abbrev S1000000 : Shape := ⟨1, ![1000000]⟩
abbrev S131072 : Shape := ⟨1, ![131072]⟩
abbrev S1024x128 : Shape := ⟨2, ![1024, 128]⟩

abbrev nBuf : Space → Nat
  | .hbm => 2
  | .vmem => 5
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .local _ .vmem, ⟨0, _⟩ => ⟨S131072, .f32⟩
  | .local _ .vmem, ⟨1, _⟩ => ⟨S131072, .f32⟩
  | .local _ .vmem, ⟨2, _⟩ => ⟨S131072, .f32⟩
  | .local _ .vmem, ⟨3, _⟩ => ⟨S131072, .f32⟩
  | .local _ .vmem, ⟨4, _⟩ => ⟨S1024x128, .i32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1000000 : Shape := ⟨1, ![1000000]⟩
abbrev S_ : Shape := ⟨0, ![]⟩
abbrev S1x1000000 : Shape := ⟨2, ![1, 1000000]⟩
abbrev S2x1000000 : Shape := ⟨2, ![2, 1000000]⟩
abbrev S1 : Shape := ⟨1, ![1]⟩
abbrev S2 : Shape := ⟨1, ![2]⟩
abbrev S1x1 : Shape := ⟨2, ![1, 1]⟩
abbrev S2x1 : Shape := ⟨2, ![2, 1]⟩

abbrev nBuf : Space → Nat
  | .hbm => 325
  | .vmem => 0
  | .smem => 0
  | _ => 0

abbrev hbmTy0_0 (i : Nat) : BufTy := match i % 128 with
  | 0 => ⟨S1000000, .f32⟩
  | 1 => ⟨S_, .f32⟩
  | 2 => ⟨S1000000, .f32⟩
  | 3 => ⟨S1000000, .f32⟩
  | 4 => ⟨S1x1000000, .f32⟩
  | 5 => ⟨S1x1000000, .f32⟩
  | 6 => ⟨S2x1000000, .f32⟩
  | 7 => ⟨S_, .f32⟩
  | 8 => ⟨S2x1000000, .f32⟩
  | 9 => ⟨S2x1000000, .f32⟩
  | 10 => ⟨S2x1000000, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S_, .f32⟩
  | 25 => ⟨S1x1, .f32⟩
  | 26 => ⟨S1x1, .f32⟩
  | 27 => ⟨S1, .i32⟩
  | 28 => ⟨S_, .i32⟩
  | 29 => ⟨S1, .i32⟩
  | 30 => ⟨S_, .i32⟩
  | 31 => ⟨S2x1000000, .i64⟩
  | 32 => ⟨S2x1000000, .i64⟩
  | 33 => ⟨S_, .i64⟩
  | 34 => ⟨S2x1000000, .i64⟩
  | 35 => ⟨S2x1000000, .i64⟩
  | 36 => ⟨S_, .i64⟩
  | 37 => ⟨S2x1000000, .i64⟩
  | 38 => ⟨S2x1000000, .i64⟩
  | 39 => ⟨S2x1000000, .i64⟩
  | 40 => ⟨S_, .i64⟩
  | 41 => ⟨S2x1000000, .i64⟩
  | 42 => ⟨S2x1000000, .i64⟩
  | 43 => ⟨S2x1000000, .i32⟩
  | 44 => ⟨S2x1000000, .i32⟩
  | 45 => ⟨S_, .i32⟩
  | 46 => ⟨S_, .i32⟩
  | 47 => ⟨S_, .i32⟩
  | 48 => ⟨S2x1000000, .i32⟩
  | 49 => ⟨S2x1000000, .i32⟩
  | 50 => ⟨S2x1000000, .i32⟩
  | 51 => ⟨S2x1000000, .i32⟩
  | 52 => ⟨S2x1000000, .i32⟩
  | 53 => ⟨S_, .i32⟩
  | 54 => ⟨S2x1000000, .i32⟩
  | 55 => ⟨S2x1000000, .i32⟩
  | 56 => ⟨S_, .i32⟩
  | 57 => ⟨S2x1000000, .i32⟩
  | 58 => ⟨S2x1000000, .i32⟩
  | 59 => ⟨S2x1000000, .i32⟩
  | 60 => ⟨S2x1000000, .i32⟩
  | 61 => ⟨S2x1000000, .i32⟩
  | 62 => ⟨S_, .i32⟩
  | 63 => ⟨S2x1000000, .i32⟩
  | 64 => ⟨S2x1000000, .i32⟩
  | 65 => ⟨S_, .i32⟩
  | 66 => ⟨S2x1000000, .i32⟩
  | 67 => ⟨S2x1000000, .i32⟩
  | 68 => ⟨S2x1000000, .i32⟩
  | 69 => ⟨S2x1000000, .i32⟩
  | 70 => ⟨S2x1000000, .i32⟩
  | 71 => ⟨S_, .i32⟩
  | 72 => ⟨S2x1000000, .i32⟩
  | 73 => ⟨S2x1000000, .i32⟩
  | 74 => ⟨S_, .i32⟩
  | 75 => ⟨S2x1000000, .i32⟩
  | 76 => ⟨S2x1000000, .i32⟩
  | 77 => ⟨S2x1000000, .i32⟩
  | 78 => ⟨S2x1000000, .i32⟩
  | 79 => ⟨S2x1000000, .i32⟩
  | 80 => ⟨S_, .i32⟩
  | 81 => ⟨S2x1000000, .i32⟩
  | 82 => ⟨S2x1000000, .i32⟩
  | 83 => ⟨S_, .i32⟩
  | 84 => ⟨S2x1000000, .i32⟩
  | 85 => ⟨S2x1000000, .i32⟩
  | 86 => ⟨S2x1000000, .i32⟩
  | 87 => ⟨S2x1000000, .i32⟩
  | 88 => ⟨S2x1000000, .i32⟩
  | 89 => ⟨S2x1000000, .i32⟩
  | 90 => ⟨S2x1000000, .i32⟩
  | 91 => ⟨S2x1000000, .i32⟩
  | 92 => ⟨S_, .i32⟩
  | 93 => ⟨S2x1000000, .i32⟩
  | 94 => ⟨S2x1000000, .i32⟩
  | 95 => ⟨S2x1000000, .i32⟩
  | 96 => ⟨S_, .i32⟩
  | 97 => ⟨S2x1000000, .i32⟩
  | 98 => ⟨S2x1000000, .i32⟩
  | 99 => ⟨S_, .i32⟩
  | 100 => ⟨S2x1000000, .i32⟩
  | 101 => ⟨S2x1000000, .i32⟩
  | 102 => ⟨S2x1000000, .i32⟩
  | 103 => ⟨S2x1000000, .i32⟩
  | 104 => ⟨S2x1000000, .i32⟩
  | 105 => ⟨S_, .i32⟩
  | 106 => ⟨S2x1000000, .i32⟩
  | 107 => ⟨S2x1000000, .i32⟩
  | 108 => ⟨S_, .i32⟩
  | 109 => ⟨S2x1000000, .i32⟩
  | 110 => ⟨S2x1000000, .i32⟩
  | 111 => ⟨S2x1000000, .i32⟩
  | 112 => ⟨S2x1000000, .i32⟩
  | 113 => ⟨S2x1000000, .i32⟩
  | 114 => ⟨S_, .i32⟩
  | 115 => ⟨S2x1000000, .i32⟩
  | 116 => ⟨S2x1000000, .i32⟩
  | 117 => ⟨S_, .i32⟩
  | 118 => ⟨S2x1000000, .i32⟩
  | 119 => ⟨S2x1000000, .i32⟩
  | 120 => ⟨S2x1000000, .i32⟩
  | 121 => ⟨S2x1000000, .i32⟩
  | 122 => ⟨S2x1000000, .i32⟩
  | 123 => ⟨S_, .i32⟩
  | 124 => ⟨S2x1000000, .i32⟩
  | 125 => ⟨S2x1000000, .i32⟩
  | 126 => ⟨S_, .i32⟩
  | 127 => ⟨S2x1000000, .i32⟩
  | _ => ⟨S1000000, .f32⟩

abbrev hbmTy0_1 (i : Nat) : BufTy := match i % 128 with
  | 0 => ⟨S2x1000000, .i32⟩
  | 1 => ⟨S2x1000000, .i32⟩
  | 2 => ⟨S2x1000000, .i32⟩
  | 3 => ⟨S2x1000000, .i32⟩
  | 4 => ⟨S2x1000000, .i32⟩
  | 5 => ⟨S2x1000000, .i32⟩
  | 6 => ⟨S2x1000000, .i32⟩
  | 7 => ⟨S_, .i32⟩
  | 8 => ⟨S2x1000000, .i32⟩
  | 9 => ⟨S2x1000000, .i32⟩
  | 10 => ⟨S2x1000000, .i32⟩
  | 11 => ⟨S_, .i32⟩
  | 12 => ⟨S2x1000000, .i32⟩
  | 13 => ⟨S2x1000000, .i32⟩
  | 14 => ⟨S_, .i32⟩
  | 15 => ⟨S2x1000000, .i32⟩
  | 16 => ⟨S2x1000000, .i32⟩
  | 17 => ⟨S2x1000000, .i32⟩
  | 18 => ⟨S2x1000000, .i32⟩
  | 19 => ⟨S2x1000000, .i32⟩
  | 20 => ⟨S_, .i32⟩
  | 21 => ⟨S2x1000000, .i32⟩
  | 22 => ⟨S2x1000000, .i32⟩
  | 23 => ⟨S_, .i32⟩
  | 24 => ⟨S2x1000000, .i32⟩
  | 25 => ⟨S2x1000000, .i32⟩
  | 26 => ⟨S2x1000000, .i32⟩
  | 27 => ⟨S2x1000000, .i32⟩
  | 28 => ⟨S2x1000000, .i32⟩
  | 29 => ⟨S_, .i32⟩
  | 30 => ⟨S2x1000000, .i32⟩
  | 31 => ⟨S2x1000000, .i32⟩
  | 32 => ⟨S_, .i32⟩
  | 33 => ⟨S2x1000000, .i32⟩
  | 34 => ⟨S2x1000000, .i32⟩
  | 35 => ⟨S2x1000000, .i32⟩
  | 36 => ⟨S2x1000000, .i32⟩
  | 37 => ⟨S2x1000000, .i32⟩
  | 38 => ⟨S_, .i32⟩
  | 39 => ⟨S2x1000000, .i32⟩
  | 40 => ⟨S2x1000000, .i32⟩
  | 41 => ⟨S_, .i32⟩
  | 42 => ⟨S2x1000000, .i32⟩
  | 43 => ⟨S2x1000000, .i32⟩
  | 44 => ⟨S2x1000000, .i32⟩
  | 45 => ⟨S2x1000000, .i32⟩
  | 46 => ⟨S2x1000000, .i32⟩
  | 47 => ⟨S2x1000000, .i32⟩
  | 48 => ⟨S2x1000000, .i32⟩
  | 49 => ⟨S2x1000000, .i32⟩
  | 50 => ⟨S_, .i32⟩
  | 51 => ⟨S2x1000000, .i32⟩
  | 52 => ⟨S2x1000000, .i32⟩
  | 53 => ⟨S2x1000000, .i32⟩
  | 54 => ⟨S_, .i32⟩
  | 55 => ⟨S2x1000000, .i32⟩
  | 56 => ⟨S2x1000000, .i32⟩
  | 57 => ⟨S_, .i32⟩
  | 58 => ⟨S2x1000000, .i32⟩
  | 59 => ⟨S2x1000000, .i32⟩
  | 60 => ⟨S2x1000000, .i32⟩
  | 61 => ⟨S2x1000000, .i32⟩
  | 62 => ⟨S2x1000000, .i32⟩
  | 63 => ⟨S_, .i32⟩
  | 64 => ⟨S2x1000000, .i32⟩
  | 65 => ⟨S2x1000000, .i32⟩
  | 66 => ⟨S_, .i32⟩
  | 67 => ⟨S2x1000000, .i32⟩
  | 68 => ⟨S2x1000000, .i32⟩
  | 69 => ⟨S2x1000000, .i32⟩
  | 70 => ⟨S2x1000000, .i32⟩
  | 71 => ⟨S2x1000000, .i32⟩
  | 72 => ⟨S_, .i32⟩
  | 73 => ⟨S2x1000000, .i32⟩
  | 74 => ⟨S2x1000000, .i32⟩
  | 75 => ⟨S_, .i32⟩
  | 76 => ⟨S2x1000000, .i32⟩
  | 77 => ⟨S2x1000000, .i32⟩
  | 78 => ⟨S2x1000000, .i32⟩
  | 79 => ⟨S2x1000000, .i32⟩
  | 80 => ⟨S2x1000000, .i32⟩
  | 81 => ⟨S_, .i32⟩
  | 82 => ⟨S2x1000000, .i32⟩
  | 83 => ⟨S2x1000000, .i32⟩
  | 84 => ⟨S_, .i32⟩
  | 85 => ⟨S2x1000000, .i32⟩
  | 86 => ⟨S2x1000000, .i32⟩
  | 87 => ⟨S2x1000000, .i32⟩
  | 88 => ⟨S2x1000000, .i32⟩
  | 89 => ⟨S2x1000000, .i32⟩
  | 90 => ⟨S2x1000000, .i32⟩
  | 91 => ⟨S2x1000000, .i32⟩
  | 92 => ⟨S2x1000000, .i32⟩
  | 93 => ⟨S_, .i32⟩
  | 94 => ⟨S2x1000000, .i32⟩
  | 95 => ⟨S2x1000000, .i32⟩
  | 96 => ⟨S2x1000000, .i32⟩
  | 97 => ⟨S_, .i32⟩
  | 98 => ⟨S2x1000000, .i32⟩
  | 99 => ⟨S2x1000000, .i32⟩
  | 100 => ⟨S_, .i32⟩
  | 101 => ⟨S2x1000000, .i32⟩
  | 102 => ⟨S2x1000000, .i32⟩
  | 103 => ⟨S2x1000000, .i32⟩
  | 104 => ⟨S2x1000000, .i32⟩
  | 105 => ⟨S2x1000000, .i32⟩
  | 106 => ⟨S_, .i32⟩
  | 107 => ⟨S2x1000000, .i32⟩
  | 108 => ⟨S2x1000000, .i32⟩
  | 109 => ⟨S_, .i32⟩
  | 110 => ⟨S2x1000000, .i32⟩
  | 111 => ⟨S2x1000000, .i32⟩
  | 112 => ⟨S2x1000000, .i32⟩
  | 113 => ⟨S2x1000000, .i32⟩
  | 114 => ⟨S2x1000000, .i32⟩
  | 115 => ⟨S_, .i32⟩
  | 116 => ⟨S2x1000000, .i32⟩
  | 117 => ⟨S2x1000000, .i32⟩
  | 118 => ⟨S_, .i32⟩
  | 119 => ⟨S2x1000000, .i32⟩
  | 120 => ⟨S2x1000000, .i32⟩
  | 121 => ⟨S2x1000000, .i32⟩
  | 122 => ⟨S2x1000000, .i32⟩
  | 123 => ⟨S2x1000000, .i32⟩
  | 124 => ⟨S_, .i32⟩
  | 125 => ⟨S2x1000000, .i32⟩
  | 126 => ⟨S2x1000000, .i32⟩
  | 127 => ⟨S_, .i32⟩
  | _ => ⟨S1000000, .f32⟩

abbrev hbmTy0_2 (i : Nat) : BufTy := match i % 128 with
  | 0 => ⟨S2x1000000, .i32⟩
  | 1 => ⟨S2x1000000, .i32⟩
  | 2 => ⟨S2x1000000, .i32⟩
  | 3 => ⟨S2x1000000, .i32⟩
  | 4 => ⟨S2x1000000, .i32⟩
  | 5 => ⟨S2x1000000, .i32⟩
  | 6 => ⟨S2x1000000, .i32⟩
  | 7 => ⟨S2x1000000, .i32⟩
  | 8 => ⟨S_, .i32⟩
  | 9 => ⟨S2x1000000, .i32⟩
  | 10 => ⟨S2x1000000, .i32⟩
  | 11 => ⟨S2x1000000, .i32⟩
  | 12 => ⟨S_, .i32⟩
  | 13 => ⟨S2x1000000, .i32⟩
  | 14 => ⟨S2x1000000, .i32⟩
  | 15 => ⟨S_, .i32⟩
  | 16 => ⟨S2x1000000, .i32⟩
  | 17 => ⟨S2x1000000, .i32⟩
  | 18 => ⟨S2x1000000, .f32⟩
  | 19 => ⟨S_, .f32⟩
  | 20 => ⟨S2x1000000, .f32⟩
  | 21 => ⟨S2x1000000, .f32⟩
  | 22 => ⟨S1x1, .f32⟩
  | 23 => ⟨S2x1000000, .f32⟩
  | 24 => ⟨S2x1000000, .f32⟩
  | 25 => ⟨S2x1000000, .f32⟩
  | 26 => ⟨S2x1000000, .f32⟩
  | 27 => ⟨S2x1000000, .f32⟩
  | 28 => ⟨S2x1000000, .f32⟩
  | 29 => ⟨S_, .f32⟩
  | 30 => ⟨S2x1000000, .f32⟩
  | 31 => ⟨S2x1000000, .f32⟩
  | 32 => ⟨S2x1000000, .f32⟩
  | 33 => ⟨S2x1000000, .f32⟩
  | 34 => ⟨S2x1000000, .f32⟩
  | 35 => ⟨S2x1000000, .f32⟩
  | 36 => ⟨S2x1000000, .f32⟩
  | 37 => ⟨S_, .f32⟩
  | 38 => ⟨S2x1000000, .f32⟩
  | 39 => ⟨S2x1000000, .f32⟩
  | 40 => ⟨S_, .f32⟩
  | 41 => ⟨S1000000, .f32⟩
  | 42 => ⟨S_, .f32⟩
  | 43 => ⟨S1000000, .f32⟩
  | 44 => ⟨S1000000, .f32⟩
  | 45 => ⟨S1x1000000, .f32⟩
  | 46 => ⟨S2x1000000, .f32⟩
  | 47 => ⟨S2x1000000, .f32⟩
  | 48 => ⟨S2x1000000, .f32⟩
  | 49 => ⟨S_, .f32⟩
  | 50 => ⟨S1000000, .f32⟩
  | 51 => ⟨S1x1000000, .f32⟩
  | 52 => ⟨S2x1000000, .f32⟩
  | 53 => ⟨S2x1000000, .f32⟩
  | 54 => ⟨S2x1000000, .i32⟩
  | 55 => ⟨S_, .f32⟩
  | 56 => ⟨S_, .i32⟩
  | 57 => ⟨S1000000, .f32⟩
  | 58 => ⟨S1000000, .i32⟩
  | 59 => ⟨S1x1000000, .i32⟩
  | 60 => ⟨S2x1, .i32⟩
  | 61 => ⟨S2x1000000, .i32⟩
  | 62 => ⟨S2x1000000, .i32⟩
  | 63 => ⟨S2x1000000, .i1⟩
  | 64 => ⟨S2x1000000, .f32⟩
  | 65 => ⟨S2x1000000, .f32⟩
  | 66 => ⟨S2x1000000, .f32⟩
  | 67 => ⟨S1x1000000, .f32⟩
  | 68 => ⟨S1000000, .f32⟩
  | _ => ⟨S1000000, .f32⟩

abbrev hbmTy (i : Nat) : BufTy := match i / 128 with
  | 0 => hbmTy0_0 i
  | 1 => hbmTy0_1 i
  | 2 => hbmTy0_2 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_c : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_c_1 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_call0_v0 : Ref sig .tc := ⟨.hbm, 45, rfl⟩
abbrev main_call0_call0_c : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_c_0 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_c_1 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_call0_v12 : Ref sig .tc := ⟨.hbm, 60, rfl⟩
abbrev main_call0_call0_v13 : Ref sig .tc := ⟨.hbm, 61, rfl⟩
abbrev main_call0_call0_c_2 : Ref sig .tc := ⟨.hbm, 62, rfl⟩
abbrev main_call0_call0_v14 : Ref sig .tc := ⟨.hbm, 63, rfl⟩
abbrev main_call0_call0_v15 : Ref sig .tc := ⟨.hbm, 64, rfl⟩
abbrev main_call0_call0_c_3 : Ref sig .tc := ⟨.hbm, 65, rfl⟩
abbrev main_call0_call0_v16 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_v19 : Ref sig .tc := ⟨.hbm, 69, rfl⟩
abbrev main_call0_call0_v20 : Ref sig .tc := ⟨.hbm, 70, rfl⟩
abbrev main_call0_call0_c_4 : Ref sig .tc := ⟨.hbm, 71, rfl⟩
abbrev main_call0_call0_v21 : Ref sig .tc := ⟨.hbm, 72, rfl⟩
abbrev main_call0_call0_v22 : Ref sig .tc := ⟨.hbm, 73, rfl⟩
abbrev main_call0_call0_c_5 : Ref sig .tc := ⟨.hbm, 74, rfl⟩
abbrev main_call0_call0_v23 : Ref sig .tc := ⟨.hbm, 75, rfl⟩
abbrev main_call0_call0_v24 : Ref sig .tc := ⟨.hbm, 76, rfl⟩
abbrev main_call0_call0_v25 : Ref sig .tc := ⟨.hbm, 77, rfl⟩
abbrev main_call0_call0_v26 : Ref sig .tc := ⟨.hbm, 78, rfl⟩
abbrev main_call0_call0_v27 : Ref sig .tc := ⟨.hbm, 79, rfl⟩
abbrev main_call0_call0_c_6 : Ref sig .tc := ⟨.hbm, 80, rfl⟩
abbrev main_call0_call0_v28 : Ref sig .tc := ⟨.hbm, 81, rfl⟩
abbrev main_call0_call0_v29 : Ref sig .tc := ⟨.hbm, 82, rfl⟩
abbrev main_call0_call0_c_7 : Ref sig .tc := ⟨.hbm, 83, rfl⟩
abbrev main_call0_call0_v30 : Ref sig .tc := ⟨.hbm, 84, rfl⟩
abbrev main_call0_call0_v31 : Ref sig .tc := ⟨.hbm, 85, rfl⟩
abbrev main_call0_call0_v32 : Ref sig .tc := ⟨.hbm, 86, rfl⟩
abbrev main_call0_call0_v33 : Ref sig .tc := ⟨.hbm, 87, rfl⟩
abbrev main_call0_call0_v34 : Ref sig .tc := ⟨.hbm, 88, rfl⟩
abbrev main_call0_call0_v35 : Ref sig .tc := ⟨.hbm, 89, rfl⟩
abbrev main_call0_call0_v36 : Ref sig .tc := ⟨.hbm, 90, rfl⟩
abbrev main_call0_call0_v37 : Ref sig .tc := ⟨.hbm, 91, rfl⟩
abbrev main_call0_call0_c_8 : Ref sig .tc := ⟨.hbm, 92, rfl⟩
abbrev main_call0_call0_v38 : Ref sig .tc := ⟨.hbm, 93, rfl⟩
abbrev main_call0_call0_v39 : Ref sig .tc := ⟨.hbm, 94, rfl⟩
abbrev main_call0_call0_v40 : Ref sig .tc := ⟨.hbm, 95, rfl⟩
abbrev main_call0_call0_c_9 : Ref sig .tc := ⟨.hbm, 96, rfl⟩
abbrev main_call0_call0_v41 : Ref sig .tc := ⟨.hbm, 97, rfl⟩
abbrev main_call0_call0_v42 : Ref sig .tc := ⟨.hbm, 98, rfl⟩
abbrev main_call0_call0_c_10 : Ref sig .tc := ⟨.hbm, 99, rfl⟩
abbrev main_call0_call0_v43 : Ref sig .tc := ⟨.hbm, 100, rfl⟩
abbrev main_call0_call0_v44 : Ref sig .tc := ⟨.hbm, 101, rfl⟩
abbrev main_call0_call0_v45 : Ref sig .tc := ⟨.hbm, 102, rfl⟩
abbrev main_call0_call0_v46 : Ref sig .tc := ⟨.hbm, 103, rfl⟩
abbrev main_call0_call0_v47 : Ref sig .tc := ⟨.hbm, 104, rfl⟩
abbrev main_call0_call0_c_11 : Ref sig .tc := ⟨.hbm, 105, rfl⟩
abbrev main_call0_call0_v48 : Ref sig .tc := ⟨.hbm, 106, rfl⟩
abbrev main_call0_call0_v49 : Ref sig .tc := ⟨.hbm, 107, rfl⟩
abbrev main_call0_call0_c_12 : Ref sig .tc := ⟨.hbm, 108, rfl⟩
abbrev main_call0_call0_v50 : Ref sig .tc := ⟨.hbm, 109, rfl⟩
abbrev main_call0_call0_v51 : Ref sig .tc := ⟨.hbm, 110, rfl⟩
abbrev main_call0_call0_v52 : Ref sig .tc := ⟨.hbm, 111, rfl⟩
abbrev main_call0_call0_v53 : Ref sig .tc := ⟨.hbm, 112, rfl⟩
abbrev main_call0_call0_v54 : Ref sig .tc := ⟨.hbm, 113, rfl⟩
abbrev main_call0_call0_c_13 : Ref sig .tc := ⟨.hbm, 114, rfl⟩
abbrev main_call0_call0_v55 : Ref sig .tc := ⟨.hbm, 115, rfl⟩
abbrev main_call0_call0_v56 : Ref sig .tc := ⟨.hbm, 116, rfl⟩
abbrev main_call0_call0_c_14 : Ref sig .tc := ⟨.hbm, 117, rfl⟩
abbrev main_call0_call0_v57 : Ref sig .tc := ⟨.hbm, 118, rfl⟩
abbrev main_call0_call0_v58 : Ref sig .tc := ⟨.hbm, 119, rfl⟩
abbrev main_call0_call0_v59 : Ref sig .tc := ⟨.hbm, 120, rfl⟩
abbrev main_call0_call0_v60 : Ref sig .tc := ⟨.hbm, 121, rfl⟩
abbrev main_call0_call0_v61 : Ref sig .tc := ⟨.hbm, 122, rfl⟩
abbrev main_call0_call0_c_15 : Ref sig .tc := ⟨.hbm, 123, rfl⟩
abbrev main_call0_call0_v62 : Ref sig .tc := ⟨.hbm, 124, rfl⟩
abbrev main_call0_call0_v63 : Ref sig .tc := ⟨.hbm, 125, rfl⟩
abbrev main_call0_call0_c_16 : Ref sig .tc := ⟨.hbm, 126, rfl⟩
abbrev main_call0_call0_v64 : Ref sig .tc := ⟨.hbm, 127, rfl⟩
abbrev main_call0_call0_v65 : Ref sig .tc := ⟨.hbm, 128, rfl⟩
abbrev main_call0_call0_v66 : Ref sig .tc := ⟨.hbm, 129, rfl⟩
abbrev main_call0_call0_v67 : Ref sig .tc := ⟨.hbm, 130, rfl⟩
abbrev main_call0_call0_v68 : Ref sig .tc := ⟨.hbm, 131, rfl⟩
abbrev main_call0_call0_v69 : Ref sig .tc := ⟨.hbm, 132, rfl⟩
abbrev main_call0_call0_v70 : Ref sig .tc := ⟨.hbm, 133, rfl⟩
abbrev main_call0_call0_v71 : Ref sig .tc := ⟨.hbm, 134, rfl⟩
abbrev main_call0_call0_c_17 : Ref sig .tc := ⟨.hbm, 135, rfl⟩
abbrev main_call0_call0_v72 : Ref sig .tc := ⟨.hbm, 136, rfl⟩
abbrev main_call0_call0_v73 : Ref sig .tc := ⟨.hbm, 137, rfl⟩
abbrev main_call0_call0_v74 : Ref sig .tc := ⟨.hbm, 138, rfl⟩
abbrev main_call0_call0_c_18 : Ref sig .tc := ⟨.hbm, 139, rfl⟩
abbrev main_call0_call0_v75 : Ref sig .tc := ⟨.hbm, 140, rfl⟩
abbrev main_call0_call0_v76 : Ref sig .tc := ⟨.hbm, 141, rfl⟩
abbrev main_call0_call0_c_19 : Ref sig .tc := ⟨.hbm, 142, rfl⟩
abbrev main_call0_call0_v77 : Ref sig .tc := ⟨.hbm, 143, rfl⟩
abbrev main_call0_call0_v78 : Ref sig .tc := ⟨.hbm, 144, rfl⟩
abbrev main_call0_call0_v79 : Ref sig .tc := ⟨.hbm, 145, rfl⟩
abbrev main_call0_call0_v80 : Ref sig .tc := ⟨.hbm, 146, rfl⟩
abbrev main_call0_call0_v81 : Ref sig .tc := ⟨.hbm, 147, rfl⟩
abbrev main_call0_call0_c_20 : Ref sig .tc := ⟨.hbm, 148, rfl⟩
abbrev main_call0_call0_v82 : Ref sig .tc := ⟨.hbm, 149, rfl⟩
abbrev main_call0_call0_v83 : Ref sig .tc := ⟨.hbm, 150, rfl⟩
abbrev main_call0_call0_c_21 : Ref sig .tc := ⟨.hbm, 151, rfl⟩
abbrev main_call0_call0_v84 : Ref sig .tc := ⟨.hbm, 152, rfl⟩
abbrev main_call0_call0_v85 : Ref sig .tc := ⟨.hbm, 153, rfl⟩
abbrev main_call0_call0_v86 : Ref sig .tc := ⟨.hbm, 154, rfl⟩
abbrev main_call0_call0_v87 : Ref sig .tc := ⟨.hbm, 155, rfl⟩
abbrev main_call0_call0_v88 : Ref sig .tc := ⟨.hbm, 156, rfl⟩
abbrev main_call0_call0_c_22 : Ref sig .tc := ⟨.hbm, 157, rfl⟩
abbrev main_call0_call0_v89 : Ref sig .tc := ⟨.hbm, 158, rfl⟩
abbrev main_call0_call0_v90 : Ref sig .tc := ⟨.hbm, 159, rfl⟩
abbrev main_call0_call0_c_23 : Ref sig .tc := ⟨.hbm, 160, rfl⟩
abbrev main_call0_call0_v91 : Ref sig .tc := ⟨.hbm, 161, rfl⟩
abbrev main_call0_call0_v92 : Ref sig .tc := ⟨.hbm, 162, rfl⟩
abbrev main_call0_call0_v93 : Ref sig .tc := ⟨.hbm, 163, rfl⟩
abbrev main_call0_call0_v94 : Ref sig .tc := ⟨.hbm, 164, rfl⟩
abbrev main_call0_call0_v95 : Ref sig .tc := ⟨.hbm, 165, rfl⟩
abbrev main_call0_call0_c_24 : Ref sig .tc := ⟨.hbm, 166, rfl⟩
abbrev main_call0_call0_v96 : Ref sig .tc := ⟨.hbm, 167, rfl⟩
abbrev main_call0_call0_v97 : Ref sig .tc := ⟨.hbm, 168, rfl⟩
abbrev main_call0_call0_c_25 : Ref sig .tc := ⟨.hbm, 169, rfl⟩
abbrev main_call0_call0_v98 : Ref sig .tc := ⟨.hbm, 170, rfl⟩
abbrev main_call0_call0_v99 : Ref sig .tc := ⟨.hbm, 171, rfl⟩
abbrev main_call0_call0_v100 : Ref sig .tc := ⟨.hbm, 172, rfl⟩
abbrev main_call0_call0_v101 : Ref sig .tc := ⟨.hbm, 173, rfl⟩
abbrev main_call0_call0_v102 : Ref sig .tc := ⟨.hbm, 174, rfl⟩
abbrev main_call0_call0_v103 : Ref sig .tc := ⟨.hbm, 175, rfl⟩
abbrev main_call0_call0_v104 : Ref sig .tc := ⟨.hbm, 176, rfl⟩
abbrev main_call0_call0_v105 : Ref sig .tc := ⟨.hbm, 177, rfl⟩
abbrev main_call0_call0_c_26 : Ref sig .tc := ⟨.hbm, 178, rfl⟩
abbrev main_call0_call0_v106 : Ref sig .tc := ⟨.hbm, 179, rfl⟩
abbrev main_call0_call0_v107 : Ref sig .tc := ⟨.hbm, 180, rfl⟩
abbrev main_call0_call0_v108 : Ref sig .tc := ⟨.hbm, 181, rfl⟩
abbrev main_call0_call0_c_27 : Ref sig .tc := ⟨.hbm, 182, rfl⟩
abbrev main_call0_call0_v109 : Ref sig .tc := ⟨.hbm, 183, rfl⟩
abbrev main_call0_call0_v110 : Ref sig .tc := ⟨.hbm, 184, rfl⟩
abbrev main_call0_call0_c_28 : Ref sig .tc := ⟨.hbm, 185, rfl⟩
abbrev main_call0_call0_v111 : Ref sig .tc := ⟨.hbm, 186, rfl⟩
abbrev main_call0_call0_v112 : Ref sig .tc := ⟨.hbm, 187, rfl⟩
abbrev main_call0_call0_v113 : Ref sig .tc := ⟨.hbm, 188, rfl⟩
abbrev main_call0_call0_v114 : Ref sig .tc := ⟨.hbm, 189, rfl⟩
abbrev main_call0_call0_v115 : Ref sig .tc := ⟨.hbm, 190, rfl⟩
abbrev main_call0_call0_c_29 : Ref sig .tc := ⟨.hbm, 191, rfl⟩
abbrev main_call0_call0_v116 : Ref sig .tc := ⟨.hbm, 192, rfl⟩
abbrev main_call0_call0_v117 : Ref sig .tc := ⟨.hbm, 193, rfl⟩
abbrev main_call0_call0_c_30 : Ref sig .tc := ⟨.hbm, 194, rfl⟩
abbrev main_call0_call0_v118 : Ref sig .tc := ⟨.hbm, 195, rfl⟩
abbrev main_call0_call0_v119 : Ref sig .tc := ⟨.hbm, 196, rfl⟩
abbrev main_call0_call0_v120 : Ref sig .tc := ⟨.hbm, 197, rfl⟩
abbrev main_call0_call0_v121 : Ref sig .tc := ⟨.hbm, 198, rfl⟩
abbrev main_call0_call0_v122 : Ref sig .tc := ⟨.hbm, 199, rfl⟩
abbrev main_call0_call0_c_31 : Ref sig .tc := ⟨.hbm, 200, rfl⟩
abbrev main_call0_call0_v123 : Ref sig .tc := ⟨.hbm, 201, rfl⟩
abbrev main_call0_call0_v124 : Ref sig .tc := ⟨.hbm, 202, rfl⟩
abbrev main_call0_call0_c_32 : Ref sig .tc := ⟨.hbm, 203, rfl⟩
abbrev main_call0_call0_v125 : Ref sig .tc := ⟨.hbm, 204, rfl⟩
abbrev main_call0_call0_v126 : Ref sig .tc := ⟨.hbm, 205, rfl⟩
abbrev main_call0_call0_v127 : Ref sig .tc := ⟨.hbm, 206, rfl⟩
abbrev main_call0_call0_v128 : Ref sig .tc := ⟨.hbm, 207, rfl⟩
abbrev main_call0_call0_v129 : Ref sig .tc := ⟨.hbm, 208, rfl⟩
abbrev main_call0_call0_c_33 : Ref sig .tc := ⟨.hbm, 209, rfl⟩
abbrev main_call0_call0_v130 : Ref sig .tc := ⟨.hbm, 210, rfl⟩
abbrev main_call0_call0_v131 : Ref sig .tc := ⟨.hbm, 211, rfl⟩
abbrev main_call0_call0_c_34 : Ref sig .tc := ⟨.hbm, 212, rfl⟩
abbrev main_call0_call0_v132 : Ref sig .tc := ⟨.hbm, 213, rfl⟩
abbrev main_call0_call0_v133 : Ref sig .tc := ⟨.hbm, 214, rfl⟩
abbrev main_call0_call0_v134 : Ref sig .tc := ⟨.hbm, 215, rfl⟩
abbrev main_call0_call0_v135 : Ref sig .tc := ⟨.hbm, 216, rfl⟩
abbrev main_call0_call0_v136 : Ref sig .tc := ⟨.hbm, 217, rfl⟩
abbrev main_call0_call0_v137 : Ref sig .tc := ⟨.hbm, 218, rfl⟩
abbrev main_call0_call0_v138 : Ref sig .tc := ⟨.hbm, 219, rfl⟩
abbrev main_call0_call0_v139 : Ref sig .tc := ⟨.hbm, 220, rfl⟩
abbrev main_call0_call0_c_35 : Ref sig .tc := ⟨.hbm, 221, rfl⟩
abbrev main_call0_call0_v140 : Ref sig .tc := ⟨.hbm, 222, rfl⟩
abbrev main_call0_call0_v141 : Ref sig .tc := ⟨.hbm, 223, rfl⟩
abbrev main_call0_call0_v142 : Ref sig .tc := ⟨.hbm, 224, rfl⟩
abbrev main_call0_call0_c_36 : Ref sig .tc := ⟨.hbm, 225, rfl⟩
abbrev main_call0_call0_v143 : Ref sig .tc := ⟨.hbm, 226, rfl⟩
abbrev main_call0_call0_v144 : Ref sig .tc := ⟨.hbm, 227, rfl⟩
abbrev main_call0_call0_c_37 : Ref sig .tc := ⟨.hbm, 228, rfl⟩
abbrev main_call0_call0_v145 : Ref sig .tc := ⟨.hbm, 229, rfl⟩
abbrev main_call0_call0_v146 : Ref sig .tc := ⟨.hbm, 230, rfl⟩
abbrev main_call0_call0_v147 : Ref sig .tc := ⟨.hbm, 231, rfl⟩
abbrev main_call0_call0_v148 : Ref sig .tc := ⟨.hbm, 232, rfl⟩
abbrev main_call0_call0_v149 : Ref sig .tc := ⟨.hbm, 233, rfl⟩
abbrev main_call0_call0_c_38 : Ref sig .tc := ⟨.hbm, 234, rfl⟩
abbrev main_call0_call0_v150 : Ref sig .tc := ⟨.hbm, 235, rfl⟩
abbrev main_call0_call0_v151 : Ref sig .tc := ⟨.hbm, 236, rfl⟩
abbrev main_call0_call0_c_39 : Ref sig .tc := ⟨.hbm, 237, rfl⟩
abbrev main_call0_call0_v152 : Ref sig .tc := ⟨.hbm, 238, rfl⟩
abbrev main_call0_call0_v153 : Ref sig .tc := ⟨.hbm, 239, rfl⟩
abbrev main_call0_call0_v154 : Ref sig .tc := ⟨.hbm, 240, rfl⟩
abbrev main_call0_call0_v155 : Ref sig .tc := ⟨.hbm, 241, rfl⟩
abbrev main_call0_call0_v156 : Ref sig .tc := ⟨.hbm, 242, rfl⟩
abbrev main_call0_call0_c_40 : Ref sig .tc := ⟨.hbm, 243, rfl⟩
abbrev main_call0_call0_v157 : Ref sig .tc := ⟨.hbm, 244, rfl⟩
abbrev main_call0_call0_v158 : Ref sig .tc := ⟨.hbm, 245, rfl⟩
abbrev main_call0_call0_c_41 : Ref sig .tc := ⟨.hbm, 246, rfl⟩
abbrev main_call0_call0_v159 : Ref sig .tc := ⟨.hbm, 247, rfl⟩
abbrev main_call0_call0_v160 : Ref sig .tc := ⟨.hbm, 248, rfl⟩
abbrev main_call0_call0_v161 : Ref sig .tc := ⟨.hbm, 249, rfl⟩
abbrev main_call0_call0_v162 : Ref sig .tc := ⟨.hbm, 250, rfl⟩
abbrev main_call0_call0_v163 : Ref sig .tc := ⟨.hbm, 251, rfl⟩
abbrev main_call0_call0_c_42 : Ref sig .tc := ⟨.hbm, 252, rfl⟩
abbrev main_call0_call0_v164 : Ref sig .tc := ⟨.hbm, 253, rfl⟩
abbrev main_call0_call0_v165 : Ref sig .tc := ⟨.hbm, 254, rfl⟩
abbrev main_call0_call0_c_43 : Ref sig .tc := ⟨.hbm, 255, rfl⟩
abbrev main_call0_call0_v166 : Ref sig .tc := ⟨.hbm, 256, rfl⟩
abbrev main_call0_call0_v167 : Ref sig .tc := ⟨.hbm, 257, rfl⟩
abbrev main_call0_call0_v168 : Ref sig .tc := ⟨.hbm, 258, rfl⟩
abbrev main_call0_call0_v169 : Ref sig .tc := ⟨.hbm, 259, rfl⟩
abbrev main_call0_call0_v170 : Ref sig .tc := ⟨.hbm, 260, rfl⟩
abbrev main_call0_v19_0 : Ref sig .tc := ⟨.hbm, 261, rfl⟩
abbrev main_call0_call0_v172 : Ref sig .tc := ⟨.hbm, 262, rfl⟩
abbrev main_call0_call0_v173 : Ref sig .tc := ⟨.hbm, 263, rfl⟩
abbrev main_call0_call0_c_44 : Ref sig .tc := ⟨.hbm, 264, rfl⟩
abbrev main_call0_call0_v174 : Ref sig .tc := ⟨.hbm, 265, rfl⟩
abbrev main_call0_v19_1 : Ref sig .tc := ⟨.hbm, 266, rfl⟩
abbrev main_call0_v20 : Ref sig .tc := ⟨.hbm, 267, rfl⟩
abbrev main_call0_c_2 : Ref sig .tc := ⟨.hbm, 268, rfl⟩
abbrev main_call0_v21 : Ref sig .tc := ⟨.hbm, 269, rfl⟩
abbrev main_call0_v22 : Ref sig .tc := ⟨.hbm, 270, rfl⟩
abbrev main_call0_c_3 : Ref sig .tc := ⟨.hbm, 271, rfl⟩
abbrev main_call0_v23 : Ref sig .tc := ⟨.hbm, 272, rfl⟩
abbrev main_call0_v24 : Ref sig .tc := ⟨.hbm, 273, rfl⟩
abbrev main_call0_v25 : Ref sig .tc := ⟨.hbm, 274, rfl⟩
abbrev main_call0_cst : Ref sig .tc := ⟨.hbm, 275, rfl⟩
abbrev main_call0_v26 : Ref sig .tc := ⟨.hbm, 276, rfl⟩
abbrev main_call0_v27 : Ref sig .tc := ⟨.hbm, 277, rfl⟩
abbrev main_call0_v28 : Ref sig .tc := ⟨.hbm, 278, rfl⟩
abbrev main_call0_v29 : Ref sig .tc := ⟨.hbm, 279, rfl⟩
abbrev main_call0_v30 : Ref sig .tc := ⟨.hbm, 280, rfl⟩
abbrev main_call0_v31 : Ref sig .tc := ⟨.hbm, 281, rfl⟩
abbrev main_call0_v32 : Ref sig .tc := ⟨.hbm, 282, rfl⟩
abbrev main_call0_v33 : Ref sig .tc := ⟨.hbm, 283, rfl⟩
abbrev main_v15 : Ref sig .tc := ⟨.hbm, 284, rfl⟩
abbrev main_cst_5 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_v20 : Ref sig .tc := ⟨.hbm, 290, rfl⟩
abbrev main_v21 : Ref sig .tc := ⟨.hbm, 291, rfl⟩
abbrev main_v22 : Ref sig .tc := ⟨.hbm, 292, rfl⟩
abbrev main_cst_6 : Ref sig .tc := ⟨.hbm, 293, rfl⟩
abbrev main_v23 : Ref sig .tc := ⟨.hbm, 294, rfl⟩
abbrev main_v24 : Ref sig .tc := ⟨.hbm, 295, rfl⟩
abbrev main_cst_7 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_v30 : Ref sig .tc := ⟨.hbm, 303, rfl⟩
abbrev main_v31 : Ref sig .tc := ⟨.hbm, 304, rfl⟩
abbrev main_cst_9 : Ref sig .tc := ⟨.hbm, 305, rfl⟩
abbrev main_v32 : Ref sig .tc := ⟨.hbm, 306, rfl⟩
abbrev main_v33 : Ref sig .tc := ⟨.hbm, 307, rfl⟩
abbrev main_v34 : Ref sig .tc := ⟨.hbm, 308, rfl⟩
abbrev main_v35 : Ref sig .tc := ⟨.hbm, 309, rfl⟩
abbrev main_call1_v0 : Ref sig .tc := ⟨.hbm, 310, rfl⟩
abbrev main_call1_cst : Ref sig .tc := ⟨.hbm, 311, rfl⟩
abbrev main_call1_c : Ref sig .tc := ⟨.hbm, 312, rfl⟩
abbrev main_call1_v1_0 : Ref sig .tc := ⟨.hbm, 313, rfl⟩
abbrev main_v36 : Ref sig .tc := ⟨.hbm, 314, rfl⟩
abbrev main_call2_v0 : Ref sig .tc := ⟨.hbm, 315, rfl⟩
abbrev main_call2_v1 : Ref sig .tc := ⟨.hbm, 316, rfl⟩
abbrev main_call2_v2 : Ref sig .tc := ⟨.hbm, 317, rfl⟩
abbrev main_call2_v3 : Ref sig .tc := ⟨.hbm, 318, rfl⟩
abbrev main_call2_v4 : Ref sig .tc := ⟨.hbm, 319, rfl⟩
abbrev main_v37 : Ref sig .tc := ⟨.hbm, 320, rfl⟩
abbrev main_v38 : Ref sig .tc := ⟨.hbm, 321, rfl⟩
abbrev main_v39 : Ref sig .tc := ⟨.hbm, 322, rfl⟩
abbrev main_v40 : Ref sig .tc := ⟨.hbm, 323, rfl⟩
abbrev main_v41 : Ref sig .tc := ⟨.hbm, 324, rfl⟩

abbrev nD : Nat := 1
abbrev τ : Topo := Topo.v7x

variable {F : FTy → Type} [FloatOps F]
-- ==== Proof.Block.lean ====
/-
  What one grid point of the kernel computes, as functions of the block it reads and of the scratch buffer.

  The kernel's body draws two noise words per lane (two runs of the same counter-based generator, the second one million
  counters further on), turns each into the logarithm of a uniform number, and stores one or zero in the lane by comparing
  two products. `blockOut i S X` is the block it stores at grid point `i`, from the input block `X` and the scratch
  contents `S`; `laneOut` the same for one lane.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.KitQuiescent
public import Idealize.ShloMosaic.Lib.Tactic
public import Idealize.ShloMosaic.Lib.Pipeline.Value

@[expose] public section

noncomputable section

namespace Cert.KernelIdeal.Block

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The block's value -/

/-- The first generator's pair of words after its last mixing round, from the scratch contents. -/
def firstWords (i : grid0.Coords) (S : Vec F S1024x128 .i32) : IVec S1024x128 32 × IVec S1024x128 32 :=
  let a := k0_pay11 (F := F) i S; let b := k0_pay12 (F := F) i S
  let p := k0_pay23 a b; let q := k0_pay24 a b
  let r := k0_pay35 p q k0_pay25; let s := k0_pay36 p q k0_pay25
  (k0_pay46 r s, k0_pay47 r s)

/-- The second generator's pair of words after its last mixing round. -/
def secondWords (i : grid0.Coords) (S : Vec F S1024x128 .i32) : IVec S1024x128 32 × IVec S1024x128 32 :=
  let x := k0_pay4 (F := F) i S
  let a := k0_pay56 x; let b := k0_pay57 x
  let p := k0_pay68 a b 466689008#32; let q := k0_pay69 a b 466689008#32
  let r := k0_pay79 p q; let s := k0_pay80 p q; let u := k0_pay81 p q
  (k0_pay92 r s u, k0_pay93 r s u)

/-- The logarithm of the first uniform number, lane by lane. -/
def logU1 (i : grid0.Coords) (S : Vec F S1024x128 .i32) : FVec F S1024x128 .f32 :=
  k0_pay48 (firstWords (F := F) i S).1 (firstWords (F := F) i S).2

/-- The block the body stores at grid point `i`. -/
def blockOut (i : grid0.Coords) (S : Vec F S1024x128 .i32) (X : FVec F S131072 .f32) : FVec F S131072 .f32 :=
  k0_pay1 (k0_pay2 X) (logU1 i S) (secondWords (F := F) i S).1 (secondWords (F := F) i S).2 0#32

/-- What the body stores in lane `k` at grid point `i` when that lane of the input block holds `x`. -/
def laneOut (i : grid0.Coords) (S : Vec F S1024x128 .i32) (k : S131072.Idx) (x : F .f32) : F .f32 :=
  blockOut i S (fun _ => x) k

/-- Each lane of the stored block depends on the input block through that lane alone. -/
theorem blockOut_apply (i : grid0.Coords) (S : Vec F S1024x128 .i32) (X : FVec F S131072 .f32) (k : S131072.Idx) :
    blockOut i S X k = laneOut i S k (X k) := by
  have key : ∀ Z : FVec F S131072 .f32, k0_pay2 Z (Shape.reshapeEquiv shapeCasts_S1024x128_S131072 k) = Z k := fun Z =>
    congrFun (shapeCast_shapeCast Z shapeCasts_S131072_S1024x128 shapeCasts_S1024x128_S131072) k
  unfold laneOut blockOut k0_pay1
  dsimp only [shapeCast, select, cmpf, mulf, addf, subf, broadcast]
  rw [key, key]

/-- The body's test whether this is the first grid point. -/
abbrev isFirst (i : grid0.Coords) : Prop :=
  Scalar.cmpi .ne (Scalar.extui (Scalar.cmpi .eq (BitVec.ofNat 32 (i 0).val) 0#32) : BitVec 32) 0#32 = 1#1

/-- The kernel's variants: none. -/
abbrev 𝒱₀ : Variants := Variants.none

/-- The scratch contents after the body at grid point `i`: filled with the lane numbers at the first point, kept at every
    other. -/
def scratchAfter (i : grid0.Coords) (S : Vec F S1024x128 .i32) : Vec F S1024x128 .i32 :=
  if isFirst i then k0_pay3 else S

set_option maxHeartbeats 1000000 in
/-- The body at grid point `i`, on any of its staging buffers: the input block stays, the output's buffer ends holding
    `blockOut` and the scratch buffer `scratchAfter`. -/
theorem sound_body (c : Dev nD) (E : Set ℕ) (i : grid0.Coords) (s0 s1 : Fin 2)
    (X Y : S131072.Idx → Elt F .f32) (S : S1024x128.Idx → Elt F .i32) (K : PUnit → sProp 𝕄) :
    iprop((owns (c : Thread nD τ) (stage0_0 s0) fullShare X ∗ owns (c : Thread nD τ) (stage0_1 s1) fullShare Y
            ∗ ((c : Thread nD τ).loc cc0_scratch0) ↦{fullShare} S)
          ∗ (iprop(owns (c : Thread nD τ) (stage0_0 s0) fullShare X
                  ∗ owns (c : Thread nD τ) (stage0_1 s1) fullShare (blockOut i (scratchAfter i S) X)
                  ∗ ((c : Thread nD τ).loc cc0_scratch0) ↦{fullShare} scratchAfter i S) -∗ K ⟨⟩))
      ⊢ wp frame (wpE (defs₀ (F := F)) 𝒱₀ c none) E
          (cc0__body i (stage0_0 s0) (hstage0_0 s0) (stage0_1 s1) (hstage0_1 s1) (Memref.whole cc0_scratch0) (Memref.isWhole_whole _)) K := by
  have hz : (![0] : Fin 1 → Nat) = fun _ => 0 := funext fun a => by fin_cases a; rfl
  have hz2 : (![0, 0] : Fin 2 → Nat) = fun _ => 0 := funext fun a => by fin_cases a <;> rfl
  have hr2 : ∀ f, (Memref.whole cc0_scratch0 : Memref sig .tc _ _ _).view.readAt (Elt F) (Rect.unit (s := S1024x128) ![0, 0] S1024x128.size
      inb_S1024x128_S1024x128_0_0).toLoadRect f = f := Memref.readAt_unit_zero (Elt F) cc0_scratch0 hz2 _
  have hw2 : ∀ f w, (((Memref.whole cc0_scratch0).access (Rect.unit (s := S1024x128) ![0, 0] S1024x128.size inb_S1024x128_S1024x128_0_0)) :
      View sig .tc _ _ _).write (Elt F) f w Finset.univ = w := Memref.write_access_unit_zero_univ (Elt F) cc0_scratch0 hz2 _
  have hra : ∀ f, (Memref.whole cc0_stg0_0 : Memref sig .tc _ _ _).view.readAt (Elt F) (Rect.unit (s := S131072) ![0] S131072.size
      inb_S131072_S131072_0).toLoadRect f = f := Memref.readAt_unit_zero (Elt F) cc0_stg0_0 hz _
  have hwa : ∀ f w, (((Memref.whole cc0_stg1_0).access (Rect.unit (s := S131072) ![0] S131072.size
      inb_S131072_S131072_0)) :
      View sig .tc _ _ _).write (Elt F) f w Finset.univ = w := Memref.write_access_unit_zero_univ (Elt F) cc0_stg1_0 hz _
  have hrb : ∀ f, (Memref.whole cc0_stg0_1 : Memref sig .tc _ _ _).view.readAt (Elt F) (Rect.unit (s := S131072) ![0] S131072.size
      inb_S131072_S131072_0).toLoadRect f = f := Memref.readAt_unit_zero (Elt F) cc0_stg0_1 hz _
  have hwb : ∀ f w, (((Memref.whole cc0_stg1_1).access (Rect.unit (s := S131072) ![0] S131072.size
      inb_S131072_S131072_0)) :
      View sig .tc _ _ _).write (Elt F) f w Finset.univ = w := Memref.write_access_unit_zero_univ (Elt F) cc0_stg1_1 hz _
  have key : (isFirst i ∧ scratchAfter i S = k0_pay3) ∨ (¬ isFirst i ∧ scratchAfter i S = S) := by
    by_cases hi : isFirst i
    · exact .inl ⟨hi, if_pos hi⟩
    · exact .inr ⟨hi, if_neg hi⟩
  rcases key with ⟨hi, hs⟩ | ⟨hi, hs⟩
  all_goals
    rw [hs]
    fin_cases s0 <;> fin_cases s1
    all_goals
      simp only [owns_whole_eq, cc0__body_eq_skeleton]
      unfold cc0__body_skel
      simp only [k0_part1_eq_skeleton, k0_part2_eq_skeleton, k0_part3_eq_skeleton, k0_part4_eq_skeleton,
        k0_part5_eq_skeleton, k0_part6_eq_skeleton, k0_part7_eq_skeleton, k0_part8_eq_skeleton]
      unfold k0_part1_skel k0_part2_skel k0_part3_skel k0_part4_skel k0_part5_skel k0_part6_skel k0_part7_skel k0_part8_skel
      simp only [Prog.lift, Prog.bind_op, Prog.bind_ret, pure_bind, dif_pos, dif_neg, hi, not_false_eq_true]
      iintro ⟨⟨⟨%f0, %hf0, H0⟩, ⟨%f1, %hf1, H1⟩, H2⟩, Hk⟩
      sl_steps
      iapply Hk
      first | rw [hra] | rw [hrb]
      first | rw [hwa] | rw [hwb]
      try rw [hw2]
      rw [hr2]
      isplitl [H0]
      · iexists f0; isplitr; · ipureintro; exact hf0
        iexact H0
      isplitl [H1]
      · iexists _; isplitr; swap; · iexact H1
        ipureintro; rw [hf0]; simp only [blockOut, logU1, firstWords, secondWords]
      · iexact H2

end Cert.KernelIdeal.Block
end
-- ==== Proof.Run.lean ====
/-
  The kernel's run: from any memory whose semaphore counters are zero it terminates, leaves its argument as it found it,
  leaves every counter at zero, and leaves in its result array the value `kernelOut` of each element of its argument.

  The array of one million elements is cut into eight blocks of 131072, the last of which overhangs: of the staging buffers'
  lanes past the array's end nothing is stated. Between grid points the kernel's scratch buffer is carried: anything before
  the first point, the lane numbers after it.
-/
module

public import proofs.«01_k».proof.Proof.Block
public import proofs.«01_k».proof.Proof.Gen.KernelIdeal.Frame
public import Idealize.ShloMosaic.Lib.Pipeline.ValueKit

@[expose] public section

noncomputable section

namespace Cert.KernelIdeal.Run

open Cert.KernelIdeal Cert.KernelIdeal.Gen Cert.KernelIdeal.Block

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The part inside the array of the argument's block at grid point `t`. -/
def argBlock (c : Dev nD) (t : Fin cfg0.N) : (win0_0.xblock (grid0.coords t)).Idx → Elt F .f32 :=
  (win0_0.blk t).view.read (Elt F) (m ((c : Thread nD τ).loc main_arg0))

/-- The argument's block filled out past the array's end with a word nothing reads. -/
def argFilled (c : Dev nD) (t : Fin cfg0.N) : S131072.Idx → Elt F .f32 :=
  win0_0.fill (grid0.coords t) (fun _ => Scalar.ofBits .f32 0#32) (argBlock m c t)

/-- The scratch buffer before grid point `n`: anything at the start, the lane numbers later. -/
def scratch (c : Dev nD) : Nat → sProp 𝕄
  | 0 => (iprop(∃ f : Buf (Elt F) ((c : Thread nD τ).loc cc0_scratch0), ((c : Thread nD τ).loc cc0_scratch0) ↦{fullShare} f) : sProp 𝕄)
  | _ + 1 => (iprop(((c : Thread nD τ).loc cc0_scratch0) ↦{fullShare} (k0_pay3 : S1024x128.Idx → Elt F .i32)) : sProp 𝕄)

/-- The proof data: the arrays as launched; after the body the input's staging buffer holds its block and the output's what
    the body computes from it; the scratch buffer is carried; nothing is owed. -/
def dats (_ : Fin 1) (c : Dev nD) : Dat τ (Elt F) Unit ℕ (UR sig nD τ) ℕ cfg0 c where
  A w := (s₀ m ρ).mem ((cfg0.win w).arr.view.loc (c : Thread nD τ))
  after w t := match w with
    | ⟨0, _⟩ => argFilled m c t
    | ⟨1, _⟩ => blockOut (grid0.coords t) k0_pay3 (argFilled m c t)
  Φ t := scratch c t.val
  q _ := fullShare
  owed _ := 0

/-- The input's staging buffer before the body: its block inside the array, anything past the array's end. -/
theorem before_arg (c : Dev nD) (t : Fin cfg0.N) (d) :
    (dats m ρ 0 c).before (0 : Fin 2) t d = win0_0.fill (grid0.coords t) d (argBlock m c t) := by
  unfold Dat.before; rw [if_pos (fetch0_0 t)]; rfl

/-- The output's staging buffer before the body: anything. -/
theorem before_out (c : Dev nD) (t : Fin cfg0.N) (d) : (dats m ρ 0 c).before (1 : Fin 2) t d = d := by
  refine (dats m ρ 0 c).before_out_reset (1 : Fin 2) rfl t ?_ d
  by_cases h : t.val = 0
  · exact .inl h
  · exact .inr ⟨h, flush0_1 _⟩

/-- The body's test is true at the first grid point and at no other. -/
theorem isFirst_iff : ∀ t : Fin cfg0.N, isFirst (grid0.coords t) ↔ t.val = 0 :=
  (by decide +kernel : ∀ t : Fin grid0.N, isFirst (grid0.coords t) ↔ t.val = 0)

/-- From the scratch buffer before point `t` the body may take its contents, which after the body are the lane numbers. -/
theorem scratch_open (c : Dev nD) (t : Fin cfg0.N) :
    (scratch (F := F) c t.val : sProp 𝕄) ⊢ iprop(∃ S : S1024x128.Idx → Elt F .i32, ⌜scratchAfter (grid0.coords t) S = k0_pay3⌝
      ∗ ((c : Thread nD τ).loc cc0_scratch0) ↦{fullShare} S) := by
  rcases h : t.val with _ | n
  · unfold scratch
    iintro ⟨%f, H⟩
    iexists f
    isplitr
    · ipureintro; exact if_pos ((isFirst_iff t).mpr h)
    · iexact H
  · unfold scratch
    iintro H
    iexists _
    isplitr; swap
    · iexact H
    · ipureintro; exact if_neg fun h' => by have := (isFirst_iff t).mp h'; omega

/-- The library's body obligation, from `sound_body` at the point's staging buffers. -/
theorem body_obligation (c : Dev nD) : BodyObligationLoose (dats m ρ 0 c) (defs₀ (F := F)) 𝒱₀ () Set.univ := fun t => by
  rw [bigSep_W0, bigSep_W0]
  simp only
  rw [show (dats m ρ 0 c).owesAt () t.succ = (dats m ρ 0 c).owesAt () t.castSucc from rfl,
    show (dats m ρ 0 c).Φ t.castSucc = scratch c t.val from rfl,
    show (dats m ρ 0 c).Φ t.succ = iprop(((c : Thread nD τ).loc cc0_scratch0) ↦{fullShare} (k0_pay3 : S1024x128.Idx → Elt F .i32)) from rfl]
  iintro ⟨HΦ, Ho, ⟨%d0, H0⟩, ⟨%d1, H1⟩⟩
  rw [before_arg m ρ c t d0, before_out m ρ c t d1]
  ihave HΦ' := (scratch_open (F := F) c t) $$ HΦ
  icases HΦ' with ⟨%S, %hS, HS⟩
  iapply (sound_body (F := F) c Set.univ (grid0.coords t) (cfg0.slots t 0) (cfg0.slots t 1)
    (win0_0.fill (grid0.coords t) d0 (argBlock m c t)) d1 S _)
  isplitl [H0 H1 HS]
  · isplitl [H0]
    · iexact H0
    isplitl [H1]
    · iexact H1
    · iexact HS
  rw [hS]
  iintro ⟨H0, H1, HS⟩
  isplitl [HS]; · iexact HS
  isplitl [Ho]; · iexact Ho
  have hx : win0_0.cut (grid0.coords t) (argFilled m c t) = argBlock m c t := win0_0.cut_fill _ _ _
  have ho : win0_0.cut (α := Elt F .f32) (grid0.coords t) (blockOut (grid0.coords t) k0_pay3 (win0_0.fill (grid0.coords t) d0 (argBlock m c t)))
      = win0_0.cut (α := Elt F .f32) (grid0.coords t) (blockOut (grid0.coords t) k0_pay3 (argFilled m c t)) := funext fun j => by
    show blockOut _ _ _ _ = blockOut _ _ _ _
    rw [blockOut_apply, blockOut_apply, win0_0.fill_xinj]
    unfold argFilled
    rw [win0_0.fill_xinj]
  isplitl [H0]
  · iexists d0
    change _ ⊢ owns (c : Thread nD τ) (stage0_0 (cfg0.slots t 0)) fullShare (win0_0.fill (grid0.coords t) d0 (win0_0.cut (grid0.coords t) (argFilled m c t)))
    rw [hx]; try iexact H0
  · iexists blockOut (grid0.coords t) k0_pay3 (win0_0.fill (grid0.coords t) d0 (argBlock m c t))
    change _ ⊢ owns (c : Thread nD τ) (stage0_1 (cfg0.slots t 1)) fullShare (win0_0.fill (grid0.coords t)
      (blockOut (grid0.coords t) k0_pay3 (win0_0.fill (grid0.coords t) d0 (argBlock m c t)))
      (win0_0.cut (α := Elt F .f32) (grid0.coords t) (blockOut (grid0.coords t) k0_pay3 (argFilled m c t))))
    rw [win0_0.fill_congr_cut _ ho]; try iexact H1

/-- The launch's tokens. -/
def u₀ : UR sig nD τ := initOf (Pipeline.cells cfgs launch0.cellOf_inj) (Pipeline.launchToks cfgs launch0.cellOf_inj)

set_option backward.isDefEq.respectTransparency.types false in
/-- The run: it terminates with every counter at zero, and each window's array holds what the library computes from the
    proof data. -/
theorem run_main : θ_run defs (onTc (τ := τ) (main (F := F))) (s₀ m ρ) (fun r =>
    (∀ (c : Dev nD) (w : Fin cfg0.W), r.2.mem ((cfg0.win w).arr.view.loc (c : Thread nD τ)) = (dats m ρ 0 c).arrAt w cfg0.N)
    ∧ r.2.sem = fun _ => 0) :=
  Pipeline.θ_run_region_noSem_kit_quiescent cfgs (dats m ρ) () (0 : Fin 1) launch0 EP defs₀ 𝒱₀ m ρ main
    (hbody := body_obligation m ρ)
    (hshare := fun c => (dats m ρ 0 c).share_full fun _ => rfl) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m ρ 0 c).Φ 0 = iprop(∃ f : Buf (Elt F) ((c : Thread nD τ).loc cc0_scratch0), ((c : Thread nD τ).loc cc0_scratch0) ↦{fullShare} f) from rfl]
      iintro ⟨-, H⟩; iexact H)
    (hout := fun c => by
      rw [scopedRest0_eq, show (dats m ρ 0 c).Φ (Fin.last cfg0.N) = iprop(((c : Thread nD τ).loc cc0_scratch0) ↦{fullShare} (k0_pay3 : S1024x128.Idx → Elt F .i32)) from rfl]
      iintro H
      isplitr
      · iempintro
      · iexists _; iexact H)
    (QY := fun _ _ => True)
    (hY := fun c s' => by
      iintro ⟨-, -, HSI⟩; imodintro
      isplitr; · ipureintro; trivial
      iexact HSI)
    (hQ := fun _ h hz => ⟨fun c w => (h c).1 w, hz⟩)

/-! ### The result array, in closed form -/

/-- The grid point whose block holds element `j`, and the element's lane in that block. -/
def point (j : S1000000.Idx) : Fin cfg0.N := ⟨(j 0).val / 131072, by
  have h : (j 0).val < 1000000 := (j 0).isLt
  show _ < 8
  omega⟩
def lane (j : S1000000.Idx) : S131072.Idx := fun
  | ⟨0, _⟩ => ⟨(j 0).val % 131072, Nat.mod_lt (j 0).val (by decide : 0 < 131072)⟩

/-- The kernel's result: element `j` computed from the argument's element `j`, by its block's grid point and its lane. -/
def kernelOut (c : Dev nD) : Buf (Elt F) ((c : Thread nD τ).loc main_v0) := fun j =>
  laneOut (grid0.coords (point j)) k0_pay3 (lane j) ((m ((c : Thread nD τ).loc main_arg0) : S1000000.Idx → F .f32) j)

/-- The blocks start at multiples of 131072 and have that many elements, the last but 82496. -/
theorem index_val : ∀ t : Fin cfg0.N, win0_1.index t 0 = t.val :=
  (by decide +kernel : ∀ t : Fin grid0.N, win0_1.index t 0 = t.val)
theorem xsize_val : ∀ t : Fin cfg0.N, win0_1.xsize (grid0.coords t) 0 = if t.val = 7 then 82496 else 131072 :=
  (by decide +kernel : ∀ t : Fin grid0.N, win0_1.xsize (grid0.coords t) 0 = if t.val = 7 then 82496 else 131072)

/-- The filled-out block at a lane inside the array is the block there. -/
theorem argFilled_xinj (c : Dev nD) (t : Fin cfg0.N) (j : (win0_0.xblock (grid0.coords t)).Idx) :
    argFilled m c t (win0_0.xinj (grid0.coords t) j) = argBlock m c t j := win0_0.fill_xinj _ _ _ _

/-- What a point writes back is its block of `kernelOut`. -/
theorem flushed_eq (c : Dev nD) (t : Fin cfg0.N) :
    (dats m ρ 0 c).flushed (1 : Fin 2) t = ((cfg0.win (1 : Fin 2)).blk t).view.read (Elt F) (kernelOut m c) := by
  funext j
  have hj : (j (0 : Fin 1)).val < win0_1.xsize (grid0.coords t) 0 := (j (0 : Fin 1)).isLt
  have hj' : (j (0 : Fin 1)).val < 131072 := by rw [xsize_val] at hj; split at hj <;> omega
  have he : (((win0_1.rect t).emb j (0 : Fin 1)) : Nat) = t.val * 131072 + (j (0 : Fin 1)).val := by
    rw [Pipeline.Window.rect_emb_val win0_1 t j 0 rfl, index_val]; rfl
  have hp : point ((win0_1.rect t).emb j) = t := Fin.ext (by show _ / 131072 = _; rw [he]; omega)
  have hl : lane ((win0_1.rect t).emb j) = win0_1.xinj (grid0.coords t) j := by
    funext a
    match a with
    | ⟨0, _⟩ =>
      refine Fin.ext ?_
      change ((win0_1.rect t).emb j (0 : Fin 1)).val % 131072 = (j (0 : Fin 1)).val
      rw [he]; omega
  show blockOut (grid0.coords t) k0_pay3 (argFilled m c t) (win0_0.xinj (grid0.coords t) j) = kernelOut m c ((win0_1.rect t).emb j)
  refine (blockOut_apply _ _ _ _).trans ((congrArg _ (argFilled_xinj m c t j)).trans ?_)
  unfold kernelOut
  rw [hp, hl]
  rfl

/-- The blocks cover the array. -/
theorem cover (c : Dev nD) (j : ((cfg0.win (1 : Fin 2)).arr.view.loc (c.tc : Thread nD τ)).2.ty.Idx) :
    ∃ t : Fin cfg0.N, (cfg0.win (1 : Fin 2)).flush t = true ∧ j ∈ ((cfg0.win (1 : Fin 2)).blk t).view.set := by
  refine ⟨point j, flush0_1 _, ?_⟩
  show j ∈ ((View.whole main_v0).slice (win0_1.rect (point j))).set
  rw [View.set_slice_whole, Rect.mem_set_unit]
  intro a
  match a with
  | ⟨0, _⟩ =>
    have h : (j (0 : Fin 1)).val < 1000000 := (j (0 : Fin 1)).isLt
    have hp : (point j).val = (j (0 : Fin 1)).val / 131072 := rfl
    change win0_1.index (point j) 0 * 131072 ≤ (j (0 : Fin 1)).val
      ∧ (j (0 : Fin 1)).val < win0_1.index (point j) 0 * 131072 + win0_1.xsize (grid0.coords (point j)) 0
    rw [index_val, xsize_val, hp]
    split <;> omega

/-- The run, its two arrays read off: the argument as it was, the result `kernelOut`, every counter zero. -/
theorem run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_v0) = kernelOut m c)
    ∧ r.2.sem = fun _ => 0) :=
  (θ_run defs _ _).mono (fun _ h => ⟨fun c =>
    ⟨(h.1 c (0 : Fin 2)).trans ((dats m ρ 0 c).arrAt_in (0 : Fin 2) rfl _),
      (h.1 c (1 : Fin 2)).trans ((dats m ρ 0 c).arrAt_eq_of_cover (1 : Fin 2) (kernelOut m c) (fun t _ => flushed_eq m ρ c t) (cover c))⟩,
    h.2⟩) (run_main m ρ)

end Cert.KernelIdeal.Run
end
-- ==== Proof.RefLine.lean ====
/- The reference as a straight line of host operations, read off the printed program: @main's operations with those of the
   functions that it calls put in their places. -/
module

public import proofs.«01_k».proof.Proof.Gen.ReferenceIdeal
public import Idealize.ShloMosaic.PureOps.Ideal
public import Idealize.ShloMosaic.Lib.StableHlo.RunHlo
public import Idealize.ShloMosaic.Lib.Quiescent
public import Idealize.ShloMosaic.Lib.StableHlo.ReadAt

@[expose] public section

noncomputable section

namespace Cert.ReferenceIdeal.Line

open Idealize.ShloMosaic Idealize.SL.Sem Idealize.ShloMosaic.StableHlo

/-- A program at the ideal instance that runs the operations of a list, one after the other. -/
abbrev IsLine (p : Prog (TpuEff nD τ sig (Elt Ideal) (Pipeline.Sig Λ₀ (Fin 0) fun p => (pcfgs (F := Ideal) p).Adm) .tc) PUnit)
    (ops : List (HloOp τ sig (Elt Ideal))) : Prop := IsSeq (nD := nD) p ops

/-- @main with the functions that it calls put in their places: its operations, in order. -/
def program : {ops : List (HloOp τ sig (Elt Ideal)) // ∀ d, IsLine (main d) ops} := by
  apply Subtype.mk
  intro d
  unfold main
  repeat (first | exact IsSeq.nil | apply IsSeq.cons)

/-- @main's operations. -/
abbrev ops : List (HloOp τ sig (Elt Ideal)) := program.1

/-- Every operation's buffers are the TensorCore's, and none leaves a result undetermined. -/
theorem ops_sub : ops.Forall fun op => op.bufs ⊆ tcRefs τ sig := by
  unfold ops program
  simp
theorem ops_fresh : ∀ op ∈ ops, op.fresh = ∅ := by
  unfold ops program
  intro _ h
  repeat (cases h with | head => rfl | tail _ h => ?_)
  exact nomatch h

/-- Every execution of the reference terminates; each buffer then holds what the operations leave there, from the launch's
    contents, and every counter reads zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ (d : Dev nD) (b : Ref sig .tc), r.2.mem ((d.tc : Thread nD τ).loc b) = after ops (launchContents m d) (Proc.devRef .tc b))
      ∧ r.2.sem = fun _ => 0) :=
  θ_run_mono (run_hlo _ _ program.2 (by decide) (by decide) ops_sub ops_fresh m g)
    fun r h => ⟨h, sem_eq_zero_of_no_sems rfl r.2⟩

set_option maxRecDepth 100000 in
/-- No operation writes the argument's buffer. -/
theorem arg_unwritten (V : Valuation τ sig (Elt Ideal)) :
    after ops V (Proc.devRef .tc main_arg0) = V (Proc.devRef .tc main_arg0) := by
  after_reads_at

end Cert.ReferenceIdeal.Line

end
-- ==== Proof.Words.lean ====
/-
  The counter-based generator, on single words: the rounds that the kernel and the reference both run, one in the vector
  unit's operations and the other in the host's, and that the two are the same function.
-/
module

public import Idealize.ShloMosaic.PureOps

@[expose] public section

noncomputable section

namespace Cert.Words

open Idealize.ShloMosaic

/-- A 32-bit word. -/
abbrev W := BitVec 32

/-- One round's second word: `b` rotated left by `r` (and right by `s`, the two adding to 32), exclusive-or the first word. -/
def rotV (r s a b : W) : W := IntOp.xori (IntOp.ori (IntOp.shli .vector b r) (IntOp.shrui .vector b s)) a
/-- The same in the host's operations and order. -/
def rotH (r s a b : W) : W := IntOp.xori a (IntOp.ori (IntOp.shli .host b r) (IntOp.shrui .host b s))

/-- One round on a pair of words. -/
def mixV (r s : W) (p : W × W) : W × W := (IntOp.addi p.1 p.2, rotV r s (IntOp.addi p.1 p.2) p.2)
def mixH (r s : W) (p : W × W) : W × W := (IntOp.addi p.1 p.2, rotH r s (IntOp.addi p.1 p.2) p.2)

/-- Adding a pair of key words and a counter. -/
def inj (a b n : W) (p : W × W) : W × W := (IntOp.addi p.1 a, IntOp.addi (IntOp.addi p.2 b) n)

/-- The twenty rounds but the first, with the key words added after every four, over a given round. -/
def tail (mix : W → W → W × W → W × W) (k₀ k₁ k₂ : W) (p : W × W) : W × W :=
  inj k₂ k₀ 5#32 (mix 6#32 26#32 (mix 26#32 6#32 (mix 15#32 17#32 (mix 13#32 19#32
    (inj k₁ k₂ 4#32 (mix 24#32 8#32 (mix 16#32 16#32 (mix 29#32 3#32 (mix 17#32 15#32
      (inj k₀ k₁ 3#32 (mix 6#32 26#32 (mix 26#32 6#32 (mix 15#32 17#32 (mix 13#32 19#32
        (inj k₂ k₀ 2#32 (mix 24#32 8#32 (mix 16#32 16#32 (mix 29#32 3#32 (mix 17#32 15#32
          (inj k₁ k₂ 1#32 (mix 6#32 26#32 (mix 26#32 6#32 (mix 15#32 17#32 p)))))))))))))))))))))))

/-- On amounts below 32 the two units' rounds agree. -/
theorem rotV_eq (r s a b : W) (hr : r.toNat < 32) (hs : s.toNat < 32) : rotV r s a b = rotH r s a b := by
  unfold rotV rotH IntOp.xori IntOp.ori IntOp.shli IntOp.shrui
  rw [if_pos hr, if_pos hr, if_pos hs, if_pos hs, BitVec.xor_comm]
theorem mixV_eq (r s : W) (hr : r.toNat < 32) (hs : s.toNat < 32) (p : W × W) : mixV r s p = mixH r s p := by
  unfold mixV mixH; rw [rotV_eq r s _ _ hr hs]

/-- So the rounds over the one are the rounds over the other. -/
theorem tail_eq (k₀ k₁ k₂ : W) (p : W × W) : tail mixV k₀ k₁ k₂ p = tail mixH k₀ k₁ k₂ p := by
  unfold tail
  simp only [mixV_eq _ _ (by decide : (13#32 : W).toNat < 32) (by decide : (19#32 : W).toNat < 32),
    mixV_eq _ _ (by decide : (15#32 : W).toNat < 32) (by decide : (17#32 : W).toNat < 32),
    mixV_eq _ _ (by decide : (26#32 : W).toNat < 32) (by decide : (6#32 : W).toNat < 32),
    mixV_eq _ _ (by decide : (6#32 : W).toNat < 32) (by decide : (26#32 : W).toNat < 32),
    mixV_eq _ _ (by decide : (17#32 : W).toNat < 32) (by decide : (15#32 : W).toNat < 32),
    mixV_eq _ _ (by decide : (29#32 : W).toNat < 32) (by decide : (3#32 : W).toNat < 32),
    mixV_eq _ _ (by decide : (16#32 : W).toNat < 32) (by decide : (16#32 : W).toNat < 32),
    mixV_eq _ _ (by decide : (24#32 : W).toNat < 32) (by decide : (8#32 : W).toNat < 32)]

/-- The generator's word, keyed by the seed 42, at the counter whose low word, the key added, is `x` (the counter's high word
    is zero): the exclusive-or of the pair that the rounds leave. -/
def noise (x : W) : W :=
  let p := tail mixH 0#32 42#32 466689008#32 (x, rotH 13#32 19#32 x x)
  IntOp.xori p.1 p.2

/-- The same from the vector unit's rounds. -/
theorem noise_eq (x : W) : noise x =
    IntOp.xori (tail mixV 0#32 42#32 466689008#32 (x, rotV 13#32 19#32 x x)).1
      (tail mixV 0#32 42#32 466689008#32 (x, rotV 13#32 19#32 x x)).2 := by
  unfold noise
  rw [tail_eq, rotV_eq _ _ _ _ (by decide) (by decide)]

end Cert.Words

end
-- ==== Proof.KernelWords.lean ====
/-
  The kernel's noise words: at each lane, the generator's words at the lane's counter and one million counters further on.
-/
module

public import proofs.«01_k».proof.Proof.Words
public import proofs.«01_k».proof.Proof.Block

@[expose] public section

noncomputable section

namespace Cert.KernelIdeal.Block

open Cert.KernelIdeal Cert.KernelIdeal.Gen Cert.Words
open Idealize.ShloMosaic

variable {F : FTy → Type} [FloatOps F]

/-! The rounds in four stretches, as the body's computation is cut. -/

/-- The first four rounds from the counter word `x` (the pair's first word is zero). -/
def stretch1 (x : W) : W × W :=
  inj 42#32 466689008#32 1#32 (mixV 6#32 26#32 (mixV 26#32 6#32 (mixV 15#32 17#32 (x, rotV 13#32 19#32 x x))))
/-- Five rounds more, -/
def stretch2 (p : W × W) : W × W :=
  mixV 13#32 19#32 (inj 466689008#32 0#32 2#32 (mixV 24#32 8#32 (mixV 16#32 16#32 (mixV 29#32 3#32 (mixV 17#32 15#32 p)))))
/-- six more, -/
def stretch3 (p : W × W) : W × W :=
  mixV 16#32 16#32 (mixV 29#32 3#32 (mixV 17#32 15#32 (inj 0#32 42#32 3#32 (mixV 6#32 26#32 (mixV 26#32 6#32 (mixV 15#32 17#32 p))))))
/-- and the last five. -/
def stretch4 (p : W × W) : W × W :=
  inj 466689008#32 0#32 5#32 (mixV 6#32 26#32 (mixV 26#32 6#32 (mixV 15#32 17#32 (mixV 13#32 19#32
    (inj 42#32 466689008#32 4#32 (mixV 24#32 8#32 p))))))

/-- Together they are all the rounds. -/
theorem stretches (x : W) : stretch4 (stretch3 (stretch2 (stretch1 x)))
    = tail mixV 0#32 42#32 466689008#32 (x, rotV 13#32 19#32 x x) := rfl

/-! The first generator's stretches at a lane, -/

theorem first1 (i : grid0.Coords) (S : Vec F S1024x128 .i32) (j : S1024x128.Idx) :
    (k0_pay11 (F := F) i S j, IntOp.addi (k0_pay12 (F := F) i S j) 1#32) = stretch1 (k0_pay4 (F := F) i S j) := rfl

set_option maxRecDepth 100000 in
theorem first2 (a b : IVec S1024x128 32) (j : S1024x128.Idx) :
    (k0_pay22 a b j, k0_pay23 a b j) = stretch2 (a j, IntOp.addi (b j) 1#32) := rfl

set_option maxRecDepth 100000 in
theorem first3 (b s : IVec S1024x128 32) (j : S1024x128.Idx) (x : W) (hs : s j = IntOp.addi x (b j)) :
    (k0_pay35 b s k0_pay25 j, k0_pay36 b s k0_pay25 j) = stretch3 (x, b j) := by
  unfold stretch3
  rw [show mixV 15#32 17#32 (x, b j) = (s j, rotV 15#32 17#32 (s j) (b j)) by rw [hs]; rfl]
  rfl

set_option maxRecDepth 100000 in
theorem first4 (a b : IVec S1024x128 32) (j : S1024x128.Idx) :
    (k0_pay46 a b j, IntOp.addi (k0_pay47 a b j) 5#32) = stretch4 (a j, b j) := rfl

/-- so its words, the last counter added, are the rounds' from the lane's counter. -/
theorem firstWords_eq (i : grid0.Coords) (S : Vec F S1024x128 .i32) (j : S1024x128.Idx) :
    ((firstWords (F := F) i S).1 j, IntOp.addi ((firstWords (F := F) i S).2 j) 5#32)
      = tail mixV 0#32 42#32 466689008#32
          (k0_pay4 (F := F) i S j, rotV 13#32 19#32 (k0_pay4 (F := F) i S j) (k0_pay4 (F := F) i S j)) := by
  rw [← stretches, ← first1, ← first2, ← first3 _ (k0_pay24 _ _) j _ rfl, ← first4]
  rfl

/-! The second generator's stretches at a lane, -/

theorem second1 (v : IVec S1024x128 32) (j : S1024x128.Idx) :
    (k0_pay57 v j, IntOp.addi (IntOp.addi (k0_pay56 v j) 466689008#32) 1#32) = stretch1 (IntOp.addi (v j) 1000000#32) := rfl

set_option maxRecDepth 100000 in
theorem second2 (a b : IVec S1024x128 32) (j : S1024x128.Idx) :
    (k0_pay67 a b 466689008#32 j, k0_pay68 a b 466689008#32 j)
      = stretch2 (b j, IntOp.addi (IntOp.addi (a j) 466689008#32) 1#32) := rfl

set_option maxRecDepth 100000 in
theorem second3 (b s : IVec S1024x128 32) (j : S1024x128.Idx) (x : W) (hs : s j = IntOp.addi x (b j)) :
    (k0_pay79 b s j, IntOp.xori (IntOp.ori (k0_pay80 b s j) (k0_pay81 b s j)) (k0_pay79 b s j)) = stretch3 (x, b j) := by
  unfold stretch3
  rw [show mixV 15#32 17#32 (x, b j) = (s j, rotV 15#32 17#32 (s j) (b j)) by rw [hs]; rfl]
  rfl

set_option maxRecDepth 100000 in
theorem second4 (a b c : IVec S1024x128 32) (j : S1024x128.Idx) :
    (k0_pay93 a b c j, IntOp.addi (IntOp.addi (k0_pay92 a b c j) 0#32) 5#32)
      = stretch4 (a j, IntOp.xori (IntOp.ori (b j) (c j)) (a j)) := rfl

/-- so its words, the last counters added, are the rounds' from the counter one million further on. -/
theorem secondWords_eq (i : grid0.Coords) (S : Vec F S1024x128 .i32) (j : S1024x128.Idx) :
    ((secondWords (F := F) i S).2 j, IntOp.addi (IntOp.addi ((secondWords (F := F) i S).1 j) 0#32) 5#32)
      = tail mixV 0#32 42#32 466689008#32
          (IntOp.addi (k0_pay4 (F := F) i S j) 1000000#32,
            rotV 13#32 19#32 (IntOp.addi (k0_pay4 (F := F) i S j) 1000000#32) (IntOp.addi (k0_pay4 (F := F) i S j) 1000000#32)) := by
  rw [← stretches, ← second1, ← second2, ← second3 _ (k0_pay69 _ _ _) j _ rfl, ← second4]
  rfl

end Cert.KernelIdeal.Block

end
-- ==== Proof.Gumbel.lean ====
/-
  The equation behind the kernel, on real numbers: the first row's straight-through choice — the softmax and the
  greatest of two log-probabilities with Gumbel noise, over a temperature — is one exactly where
  `p0 * t1 ≤ p1 * t0`, `t0` and `t1` the logarithms of the two uniform numbers, and zero elsewhere.
-/
module

public import Idealize.ShloMosaic.PureOps.Ideal
public import Idealize.ShloMosaic.PureOps.Ideal.Laws

@[expose] public section

noncomputable section

namespace Cert.Gumbel

open Idealize.ShloMosaic

/-- A row's score: its log-probability plus its Gumbel noise, over the temperature. -/
def score (p t τ : EReal) : EReal := Ideal.div (Ideal.log p + -Ideal.log (-t)) τ

/-- The logarithm of a positive real number. -/
theorem log_pos {r : ℝ} (h : 0 < r) : Ideal.log (r : EReal) = (Real.log r : ℝ) := if_neg (not_le.2 h)

/-- The logarithm of a real number that is not positive. -/
theorem log_nonpos {r : ℝ} (h : r ≤ 0) : Ideal.log (r : EReal) = ⊥ := if_pos h

/-- The quotient of real numbers by a positive one. -/
theorem div_pos {r τ : ℝ} (h : 0 < τ) : Ideal.div (r : EReal) (τ : EReal) = ((r / τ : ℝ) : EReal) := by
  rw [Ideal.div, if_neg (by exact_mod_cast h.ne'), ← EReal.coe_inv, ← EReal.coe_mul, div_eq_mul_inv]

/-- A positive probability's score is a real number. -/
theorem score_pos {p t τ : ℝ} (hp : 0 < p) (ht : t < 0) (hτ : 0 < τ) :
    score p t τ = (((Real.log p - Real.log (-t)) / τ : ℝ) : EReal) := by
  rw [score, log_pos hp, ← EReal.coe_neg, log_pos (neg_pos.2 ht), ← EReal.coe_neg, ← EReal.coe_add, div_pos hτ, sub_eq_add_neg]

/-- The score of a probability that is not positive is minus infinity. -/
theorem score_nonpos {p t τ : ℝ} (hp : p ≤ 0) (hτ : 0 < τ) : score p t τ = ⊥ := by
  rw [score, log_nonpos hp, EReal.bot_add, Ideal.div, if_neg (by exact_mod_cast hτ.ne'), ← EReal.coe_inv,
    EReal.bot_mul_coe_of_pos (inv_pos.2 hτ)]

/-- Which of two scores is the greater, where one of the probabilities is positive. -/
theorem score_le_iff {p0 p1 t0 t1 τ : ℝ} (hp : 0 < p0 + p1) (h0 : t0 < 0) (h1 : t1 < 0) (hτ : 0 < τ) :
    score p1 t1 τ ≤ score p0 t0 τ ↔ p0 * t1 ≤ p1 * t0 := by
  rcases le_or_gt p0 0 with a | a
  · have b : 0 < p1 := by linarith
    rw [score_nonpos a hτ, score_pos b h1 hτ]
    refine iff_of_false (by simp) ?_
    nlinarith [mul_nonneg_of_nonpos_of_nonpos a h1.le, mul_neg_of_pos_of_neg b h0]
  · rcases le_or_gt p1 0 with b | b
    · rw [score_nonpos b hτ]
      refine iff_of_true bot_le ?_
      nlinarith [mul_nonneg_of_nonpos_of_nonpos b h0.le, mul_neg_of_pos_of_neg a h1]
    · rw [score_pos a h0 hτ, score_pos b h1 hτ, EReal.coe_le_coe_iff, div_le_div_iff_of_pos_right hτ, sub_le_sub_iff,
        ← Real.log_mul b.ne' (neg_pos.2 h0).ne', ← Real.log_mul a.ne' (neg_pos.2 h1).ne',
        Real.log_le_log_iff (mul_pos b (neg_pos.2 h0)) (mul_pos a (neg_pos.2 h1))]
      constructor <;> intro h <;> linarith

/-- The greater of two real numbers. -/
theorem coe_max (x y : ℝ) : max (x : EReal) y = ((max x y : ℝ) : EReal) :=
  (Monotone.map_max fun _ _ h => EReal.coe_le_coe_iff.2 h).symm

/-- The exponentials of two scores less the greater of them: real numbers of positive sum, ordered as the scores are. -/
theorem weights (a b : EReal) (ha : a = ⊥ ∨ ∃ x : ℝ, a = x) (hb : b = ⊥ ∨ ∃ y : ℝ, b = y) (hab : ¬ (a = ⊥ ∧ b = ⊥)) :
    ∃ v w : ℝ, Ideal.exp (a - max a b) = v ∧ Ideal.exp (b - max a b) = w ∧ 0 < v + w ∧ (w ≤ v ↔ b ≤ a) := by
  rcases ha with rfl | ⟨x, rfl⟩ <;> rcases hb with rfl | ⟨y, rfl⟩
  · exact absurd ⟨rfl, rfl⟩ hab
  · refine ⟨0, 1, ?_, ?_, by norm_num, iff_of_false (by norm_num) (by simp)⟩
    · rw [max_eq_right bot_le, sub_eq_add_neg, EReal.bot_add]; rfl
    · rw [max_eq_right bot_le, ← EReal.coe_sub, sub_self]
      exact congrArg Real.toEReal Real.exp_zero
  · refine ⟨1, 0, ?_, ?_, by norm_num, iff_of_true (by norm_num) bot_le⟩
    · rw [max_eq_left bot_le, ← EReal.coe_sub, sub_self]
      exact congrArg Real.toEReal Real.exp_zero
    · rw [max_eq_left bot_le, sub_eq_add_neg, EReal.bot_add]; rfl
  · refine ⟨Real.exp (x - max x y), Real.exp (y - max x y), ?_, ?_, by positivity, ?_⟩
    · rw [coe_max, ← EReal.coe_sub]; rfl
    · rw [coe_max, ← EReal.coe_sub]; rfl
    · rw [Real.exp_le_exp, sub_le_sub_iff_right, EReal.coe_le_coe_iff]

/-- A score is minus infinity or a real number. -/
theorem score_cases (p t : ℝ) {τ : ℝ} (ht : t < 0) (hτ : 0 < τ) : score p t τ = ⊥ ∨ ∃ x : ℝ, score p t τ = x := by
  rcases le_or_gt p 0 with a | a
  · exact .inl (score_nonpos a hτ)
  · exact .inr ⟨_, score_pos a ht hτ⟩

/-- The straight-through choice of the first row, from the two scores `y0` and `y1`: the hard choice less the soft one,
    plus it. -/
def choice (y0 y1 : EReal) : EReal :=
  let m := max ⊥ (max (max ⊥ y0) y1)
  let z := 0 + (Ideal.exp (y0 - m) + Ideal.exp (y1 - m))
  ((if Ideal.div (Ideal.exp (y1 - m)) z ≤ Ideal.div (Ideal.exp (y0 - m)) z then 1 else 0)
    - Ideal.div (Ideal.exp (y0 - m)) z) + Ideal.div (Ideal.exp (y0 - m)) z

/-- It is one where the first row's score is not the smaller and zero elsewhere. -/
theorem choice_eq {p0 p1 t0 t1 τ : ℝ} (hp : 0 < p0 + p1) (h0 : t0 < 0) (h1 : t1 < 0) (hτ : 0 < τ) :
    choice (score p0 t0 τ) (score p1 t1 τ) = if (p0 : EReal) * t1 ≤ (p1 : EReal) * t0 then 1 else 0 := by
  have hne : ¬ (score p0 t0 τ = ⊥ ∧ score p1 t1 τ = ⊥) := by
    rintro ⟨a, b⟩
    rcases le_or_gt p0 0 with c | c
    · rw [score_pos (by linarith) h1 hτ] at b
      exact EReal.coe_ne_bot _ b
    · rw [score_pos c h0 hτ] at a
      exact EReal.coe_ne_bot _ a
  obtain ⟨v, w, hv, hw, hz, hvw⟩ := weights _ _ (score_cases p0 t0 h0 hτ) (score_cases p1 t1 h1 hτ) hne
  rw [choice]
  simp only [max_bot_left, hv, hw]
  rw [zero_add, ← EReal.coe_add, div_pos hz, div_pos hz]
  have key : ((w / (v + w) : ℝ) : EReal) ≤ ((v / (v + w) : ℝ) : EReal) ↔ (p0 : EReal) * t1 ≤ (p1 : EReal) * t0 := by
    rw [EReal.coe_le_coe_iff, div_le_div_iff_of_pos_right hz, hvw, score_le_iff hp h0 h1 hτ, ← EReal.coe_mul,
      ← EReal.coe_mul, EReal.coe_le_coe_iff]
  rw [if_congr key rfl rfl]
  split_ifs
  · rw [← EReal.coe_one, ← EReal.coe_sub, ← EReal.coe_add, sub_add_cancel]
  · rw [← EReal.coe_zero, ← EReal.coe_sub, ← EReal.coe_add, sub_add_cancel]

end Cert.Gumbel

end
-- ==== Proof.Uniform.lean ====
/-
  The uniform numbers, made from a generator's word: the word's top 23 bits as the fraction of a number from one up to
  two, less one, and not below the smallest normal number. And the real numbers that the program's constants are.
-/
module

public import Idealize.ShloMosaic.Lib.IdealHost
public import proofs.«01_k».proof.Proof.Gumbel

@[expose] public section

noncomputable section

namespace Cert.Uniform

open Idealize.ShloMosaic

/-- A word with the sign clear and the exponent neither all zeros nor all ones is a positive real number. -/
theorem normal (b : BitVec 32) (hs : b.extractLsb' 31 1 = 0#1) (h0 : (b.extractLsb' 23 8).toNat ≠ 0)
    (h1 : (b.extractLsb' 23 8).toNat ≠ 255) :
    Ideal.ofBits .f32 b
      = ((((2 ^ 23 + (b.extractLsb' 0 23).toNat : Nat) : ℝ) * 2 ^ (((b.extractLsb' 23 8).toNat : ℤ) - 150) : ℝ) : EReal) := by
  unfold Ideal.ofBits Ideal.ieee
  refine (if_neg h1).trans ((if_neg h0).trans (congrArg Real.toEReal ?_))
  have e : ((b.extractLsb' 23 8).toNat : ℤ) - (2 ^ (8 - 1) - 1) - (23 : ℕ) = ((b.extractLsb' 23 8).toNat : ℤ) - 150 := by
    norm_num
    ring
  rw [e]
  simp [hs]

/-- The temperature's word is a positive real number. -/
theorem tau : ∃ r : ℝ, 0 < r ∧ Ideal.ofBits .f32 0x3DCCCCCD#32 = (r : EReal) :=
  ⟨_, by positivity, normal _ (by decide) (by decide) (by decide)⟩

/-- The word added to each probability is a positive real number. -/
theorem eps : ∃ r : ℝ, 0 < r ∧ Ideal.ofBits .f32 0x26901D7D#32 = (r : EReal) :=
  ⟨_, by positivity, normal _ (by decide) (by decide) (by decide)⟩

/-- The smallest normal number is positive and below one. -/
theorem tiny : ∃ r : ℝ, 0 < r ∧ r < 1 ∧ Ideal.ofBits .f32 0x00800000#32 = (r : EReal) := by
  refine ⟨_, ?_, ?_, normal _ (by decide) (by decide) (by decide)⟩
  · positivity
  · have e : ((0x00800000#32).extractLsb' 23 8).toNat = 1 := by decide
    have f : ((0x00800000#32).extractLsb' 0 23).toNat = 0 := by decide
    rw [e, f]
    norm_num

/-- The word of all ones in the exponent and the sign set is minus infinity. -/
theorem bot : Ideal.ofBits .f32 0xFF800000#32 = ⊥ := by
  simp [Ideal.ofBits, Ideal.ieee]

/-- The same with the sign clear is plus infinity. -/
theorem top : Ideal.ofBits .f32 0x7F800000#32 = ⊤ := by
  simp [Ideal.ofBits, Ideal.ieee]

/-- The number whose exponent is one's and whose fraction is a word's top 23 bits lies from one up to two. -/
theorem mantissa (b : BitVec 32) : ∃ r : ℝ, 0 ≤ r ∧ r < 1 ∧
    Ideal.ofBits .f32 (b >>> 9 ||| 0x3F800000#32) = ((1 + r : ℝ) : EReal) := by
  have hs : (b >>> 9 ||| 0x3F800000#32).extractLsb' 31 1 = 0#1 := by
    ext i hi
    simp only [BitVec.getElem_extractLsb']
    have : i = 0 := by omega
    subst this
    simp
  have he : (b >>> 9 ||| 0x3F800000#32).extractLsb' 23 8 = 127#8 := by
    ext i hi
    simp only [BitVec.getElem_extractLsb']
    interval_cases i <;> simp
  have hf : ((b >>> 9 ||| 0x3F800000#32).extractLsb' 0 23).toNat < 2 ^ 23 := BitVec.isLt _
  have e : ((b >>> 9 ||| 0x3F800000#32).extractLsb' 23 8).toNat = 127 := by rw [he]; rfl
  refine ⟨((b >>> 9 ||| 0x3F800000#32).extractLsb' 0 23).toNat / 2 ^ 23, by positivity, ?_, ?_⟩
  · rw [div_lt_one (by positivity)]
    exact_mod_cast hf
  · rw [normal _ hs (by omega) (by omega), e]
    generalize ((b >>> 9 ||| 0x3F800000#32).extractLsb' 0 23).toNat = n
    congr 1
    push_cast
    norm_num
    ring

/-- The uniform number of a word. -/
def draw (b : BitVec 32) : EReal :=
  max (Ideal.ofBits .f32 (b >>> 9 ||| 0x3F800000#32) - 1) (Ideal.ofBits .f32 0x00800000#32)

/-- Its logarithm is a negative real number. -/
theorem log_draw (b : BitVec 32) : ∃ t : ℝ, t < 0 ∧ Ideal.log (draw b) = (t : EReal) := by
  obtain ⟨r, h0, h1, h⟩ := mantissa b
  obtain ⟨s, s0, s1, hs⟩ := tiny
  refine ⟨Real.log (max r s), Real.log_neg (lt_max_of_lt_right s0) (max_lt h1 s1), ?_⟩
  rw [draw, h, hs, ← EReal.coe_one, ← EReal.coe_sub, Gumbel.coe_max, Gumbel.log_pos]
  · congr 3; ring
  · rw [add_sub_cancel_left]; exact lt_max_of_lt_right s0

/-- The choice made from an argument and the two words of noise, `w0` the first row's and `w1` the second's. -/
def decision (x : EReal) (w0 w1 : BitVec 32) : EReal :=
  if ((1 - x) + Ideal.ofBits .f32 0x26901D7D#32) * Ideal.log (draw w1)
      ≤ (x + Ideal.ofBits .f32 0x26901D7D#32) * Ideal.log (draw w0) then 1 else 0

end Cert.Uniform

end
-- ==== Proof.KernelValue.lean ====
/-
  What the kernel leaves at an index: one or zero by the comparison of two products, each of a probability and the
  logarithm of a uniform number, the numbers drawn at the index's counter and at the counter one million further on.
-/
module

public import proofs.«01_k».proof.Proof.KernelWords
public import proofs.«01_k».proof.Proof.Run
public import proofs.«01_k».proof.Proof.Uniform

@[expose] public section

noncomputable section

namespace Cert.KernelIdeal.Value

open Cert.KernelIdeal Cert.KernelIdeal.Gen Cert.KernelIdeal.Block Cert.KernelIdeal.Run Cert.Words
open Idealize.ShloMosaic

/-- Nine places to the right, on every unit. -/
theorem shrui_nine (u : ArithUnit) (x : BitVec 32) : IntOp.shrui u x 9#32 = x >>> 9 := if_pos (by decide)

/-- The logarithm of a word's uniform number, in the body's operations. -/
theorem log_draw_eq (w : BitVec 32) :
    FloatOps.log (F := Ideal) (φ := .f32) (FloatOps.maximumf
        (FloatOps.subf (Ideal.ofBits .f32 (IntOp.ori (w >>> 9) 1065353216#32)) (Ideal.ofBits .f32 0x3F800000#32))
        (Ideal.ofBits .f32 0x00800000#32))
      = Ideal.log (Uniform.draw w) := by
  rw [Uniform.draw, ← Ideal.ofBits_one_f32]
  simp only [Ideal.log_def, Ideal.maximumf_def, Ideal.subf_def, IntOp.ori]

/-- A lane's logarithm from its two words. -/
theorem log_apply (a b : IVec S1024x128 32) (l : S1024x128.Idx) :
    (k0_pay48 (F := Ideal) a b l : EReal) = Ideal.log (Uniform.draw (IntOp.xori (a l) (IntOp.addi (b l) 5#32))) := by
  unfold k0_pay48
  dsimp only [log, maximumf, subf, bitcastToFloat, ori, shrui, xori, addi, broadcast]
  rw [shrui_nine]
  exact log_draw_eq _

/-- A choice between two numbers by a comparison of two. -/
theorem select_ole (a b x y : EReal) :
    (Scalar.select (Ideal.cmp .ole a b) x y : EReal) = if a ≤ b then x else y := by
  by_cases h : a ≤ b <;> simp [Scalar.select, Ideal.cmp, h]

/-- The stored lane from the argument, the first logarithm and the second stream's two words there. -/
theorem pay1_apply (X v : FVec Ideal S1024x128 .f32) (a b : IVec S1024x128 32) (k : S131072.Idx) (l : S1024x128.Idx)
    (hl : Shape.reshapeEquiv shapeCasts_S1024x128_S131072 k = l) :
    (k0_pay1 (F := Ideal) X v a b 0#32 k : EReal)
      = if ((1 - (X l : EReal)) + Ideal.ofBits .f32 0x26901D7D#32)
            * Ideal.log (Uniform.draw (IntOp.xori (b l) (IntOp.addi (IntOp.addi (a l) 0#32) 5#32)))
          ≤ ((X l : EReal) + Ideal.ofBits .f32 0x26901D7D#32) * (v l : EReal) then 1 else 0 := by
  unfold k0_pay1
  dsimp only [shapeCast, select, cmpf, mulf, addf, log, maximumf, subf, bitcastToFloat, ori, shrui, xori, addi, broadcast]
  rw [hl, shrui_nine]
  simp only [Scalar.ofBits]
  rw [log_draw_eq, Ideal.cmpf_def]
  simp only [Ideal.mulf_def, Ideal.addf_def, Ideal.subf_def, Ideal.ofBits_def, Ideal.ofBits_one_f32, Ideal.ofBits_zero_f32]
  exact select_ole _ _ _ _

/-- The stored lane as the choice from the words at the lane's two counters. -/
theorem laneOut_eq (i : grid0.Coords) (S : Vec Ideal S1024x128 .i32) (k : S131072.Idx) (x : EReal) :
    (laneOut (F := Ideal) i S k x : EReal)
      = Uniform.decision x
          (noise (k0_pay4 (F := Ideal) i S (Shape.reshapeEquiv shapeCasts_S1024x128_S131072 k)))
          (noise (IntOp.addi (k0_pay4 (F := Ideal) i S (Shape.reshapeEquiv shapeCasts_S1024x128_S131072 k)) 1000000#32)) := by
  unfold Uniform.decision
  generalize hl : Shape.reshapeEquiv shapeCasts_S1024x128_S131072 k = l
  have e := firstWords_eq (F := Ideal) i S l
  have f := secondWords_eq (F := Ideal) i S l
  rw [laneOut, blockOut, pay1_apply _ _ _ _ k l hl, logU1, log_apply, noise_eq, noise_eq, ← e, ← f]
  rfl

/-- The coordinates of a grid point are its number. -/
theorem coords_val : ∀ t : Fin cfg0.N, ((grid0.coords t) 0).val = t.val :=
  (by decide +kernel : ∀ t : Fin grid0.N, ((grid0.coords t) 0).val = t.val)

/-- The counter at an index of the result, the key added, is the index's number plus the key. -/
theorem counter (j : S1000000.Idx) :
    k0_pay4 (F := Ideal) (grid0.coords (point j)) k0_pay3 (Shape.reshapeEquiv shapeCasts_S1024x128_S131072 (lane j))
      = IntOp.addi (BitVec.ofNat 32 (j 0).val) 42#32 := by
  have hr := Shape.rowMajor_reshapeEquiv shapeCasts_S1024x128_S131072 (lane j)
  generalize Shape.reshapeEquiv shapeCasts_S1024x128_S131072 (lane j) = l at hr ⊢
  rw [Shape.rowMajor_val_one, Shape.rowMajor_val_two] at hr
  change (l 0).val * 128 + (l 1).val = (j 0).val % 131072 at hr
  rw [k0_pay3, shapeCast_self, k0_pay4]
  change (BitVec.ofNat 32 ((grid0.coords (point j)) 0).val * 131072#32 + 42#32)
      + (BitVec.ofNat 32 (0 * 1024 + (l 0).val) * 128#32 + BitVec.ofNat 32 (0 * 128 + (l 1).val)) = BitVec.ofNat 32 (j 0).val + 42#32
  rw [coords_val]
  change (BitVec.ofNat 32 ((j 0).val / 131072) * BitVec.ofNat 32 131072 + BitVec.ofNat 32 42)
      + (BitVec.ofNat 32 (0 * 1024 + (l 0).val) * BitVec.ofNat 32 128 + BitVec.ofNat 32 (0 * 128 + (l 1).val))
      = BitVec.ofNat 32 (j 0).val + BitVec.ofNat 32 42
  simp only [← BitVec.ofNat_add, ← BitVec.ofNat_mul]
  congr 1
  omega

/-- The stored lane that an index of the result is taken from: the choice from the words at the index's two counters. -/
theorem value (j : S1000000.Idx) (x : EReal) :
    (laneOut (F := Ideal) (grid0.coords (point j)) k0_pay3 (lane j) x : EReal)
      = Uniform.decision x (noise (IntOp.addi (BitVec.ofNat 32 (j 0).val) 42#32))
          (noise (IntOp.addi (IntOp.addi (BitVec.ofNat 32 (j 0).val) 42#32) 1000000#32)) := by
  rw [laneOut_eq, counter]

end Cert.KernelIdeal.Value

end
-- ==== Proof.RefStages.lean ====
/-
  The reference's later values in terms of its earlier ones, each at an index: what every buffer that the result depends
  on holds after the run, as a function of what the buffers before it hold.
-/
module

public import proofs.«01_k».proof.Proof.RefLine

@[expose] public section

noncomputable section

namespace Cert.ReferenceIdeal.Line

open Idealize.ShloMosaic Idealize.SL.Sem Idealize.ShloMosaic.StableHlo

/-- A run is the run of its first `n` operations and then of the rest. -/
theorem cut (n : Nat) (V : Valuation τ sig (Elt Ideal)) : after ops V = after (ops.drop n) (after (ops.take n) V) := by
  rw [← after_append, List.take_append_drop]

variable (V : Valuation τ sig (Elt Ideal))

set_option maxRecDepth 100000

/-- What the first `n` operations leave in a buffer that the others do not write is what the run leaves there. -/
theorem kept {n : Nat} {b : DevRef τ sig} (h : ∀ V' : Valuation τ sig (Elt Ideal), after (ops.drop n) V' b = V' b) :
    after (ops.take n) V b = after ops V b := by
  rw [cut n V, h]

/-- The first row's log-probability: of one less the argument. -/
theorem logProb_zero (c : Fin 1000000) : (after ops V (Proc.devRef .tc main_v7) (ix2 0 c) : EReal)
    = FloatOps.hostUnary (F := Ideal) (φ := .f32) HostUnaryOp.log (FloatOps.addf
        (FloatOps.subf (FloatOps.ofBits .f32 0x3F800000#32) (V (Proc.devRef .tc main_arg0) (ix1 c)))
        (FloatOps.ofBits .f32 0x26901D7D#32)) := by
  after_reads_at
  after_reads_at

/-- The second row's log-probability: of the argument. -/
theorem logProb_one (c : Fin 1000000) : (after ops V (Proc.devRef .tc main_v7) (ix2 1 c) : EReal)
    = FloatOps.hostUnary (F := Ideal) (φ := .f32) HostUnaryOp.log (FloatOps.addf
        (V (Proc.devRef .tc main_arg0) (ix1 c)) (FloatOps.ofBits .f32 0x26901D7D#32)) := by
  after_reads_at
  after_reads_at

/-- The score at an index, from contents before its operations. -/
theorem score_of (V' : Valuation τ sig (Elt Ideal)) (j : S2x1000000.Idx) :
    (after (ops.drop 284) V' (Proc.devRef .tc main_v24) j : EReal)
      = FloatOps.hostDivf (F := Ideal) (φ := .f32)
          (FloatOps.addf (V' (Proc.devRef .tc main_v7) j)
            (FloatOps.hostNegf (FloatOps.hostUnary HostUnaryOp.log (FloatOps.hostNegf (FloatOps.hostUnary HostUnaryOp.log
              (FloatOps.maximumf (V' (Proc.devRef .tc main_v15) j) (FloatOps.ofBits .f32 0x00800000#32)))))))
          (FloatOps.ofBits .f32 0x3DCCCCCD#32) := by
  after_reads_at

/-- The score at an index: the log-probability plus the noise, over the temperature. -/
theorem score (j : S2x1000000.Idx) : (after ops V (Proc.devRef .tc main_v24) j : EReal)
    = FloatOps.hostDivf (F := Ideal) (φ := .f32)
        (FloatOps.addf (after ops V (Proc.devRef .tc main_v7) j)
          (FloatOps.hostNegf (FloatOps.hostUnary HostUnaryOp.log (FloatOps.hostNegf (FloatOps.hostUnary HostUnaryOp.log
            (FloatOps.maximumf (after ops V (Proc.devRef .tc main_v15) j) (FloatOps.ofBits .f32 0x00800000#32)))))))
        (FloatOps.ofBits .f32 0x3DCCCCCD#32) := by
  have h1 := kept V (n := 284) (b := Proc.devRef .tc main_v7) (fun V' => by after_reads_at)
  have h2 := kept V (n := 284) (b := Proc.devRef .tc main_v15) (fun V' => by after_reads_at)
  have h := score_of (after (ops.take 284) V) j
  rw [h1, h2, ← cut] at h
  exact h

/-- The uniform number at an index, from contents before its operations. -/
theorem uniform_of (V' : Valuation τ sig (Elt Ideal)) (j : S2x1000000.Idx) :
    (after (ops.drop 267) V' (Proc.devRef .tc main_v15) j : EReal)
      = FloatOps.maximumf (F := Ideal) (φ := .f32) (V' (Proc.devRef .tc main_call0_v2) (ix2 0 0))
          (FloatOps.addf (FloatOps.mulf (FloatOps.subf
              (FloatOps.ofBits .f32 (IntOp.ori (IntOp.shrui .host (V' (Proc.devRef .tc main_call0_v20) j) 9#32) 0x3F800000#32))
              (FloatOps.ofBits .f32 0x3F800000#32))
            (FloatOps.subf (V' (Proc.devRef .tc main_call0_v3) (ix2 0 0)) (V' (Proc.devRef .tc main_call0_v2) (ix2 0 0))))
            (V' (Proc.devRef .tc main_call0_v2) (ix2 0 0))) := by
  after_reads_at

/-- The uniform number at an index, from the generator's word there. -/
theorem uniform (j : S2x1000000.Idx) : (after ops V (Proc.devRef .tc main_v15) j : EReal)
    = FloatOps.maximumf (F := Ideal) (φ := .f32) (FloatOps.ofBits .f32 0#32)
        (FloatOps.addf (FloatOps.mulf (FloatOps.subf
            (FloatOps.ofBits .f32 (IntOp.ori (IntOp.shrui .host (after ops V (Proc.devRef .tc main_call0_v20) j) 9#32) 0x3F800000#32))
            (FloatOps.ofBits .f32 0x3F800000#32))
          (FloatOps.subf (FloatOps.ofBits .f32 0x3F800000#32) (FloatOps.ofBits .f32 0#32)))
          (FloatOps.ofBits .f32 0#32)) := by
  have z : (after ops V (Proc.devRef .tc main_call0_v2) (ix2 0 0) : EReal) = FloatOps.ofBits (F := Ideal) .f32 0#32 := by
    after_reads_at
    rfl
  have o : (after ops V (Proc.devRef .tc main_call0_v3) (ix2 0 0) : EReal) = FloatOps.ofBits (F := Ideal) .f32 0x3F800000#32 := by
    after_reads_at
    rfl
  have h1 := kept V (n := 267) (b := Proc.devRef .tc main_call0_v2) (fun V' => by after_reads_at)
  have h2 := kept V (n := 267) (b := Proc.devRef .tc main_call0_v3) (fun V' => by after_reads_at)
  have h3 := kept V (n := 267) (b := Proc.devRef .tc main_call0_v20) (fun V' => by after_reads_at)
  have h := uniform_of (after (ops.take 267) V) j
  rw [h1, h2, h3, ← cut, z, o] at h
  exact h

/-- The columns' greatest scores. -/
theorem greatest : after ops V (Proc.devRef .tc main_v25)
    = Host.reduce (FloatOps.maximumf (F := Ideal) (φ := .f32)) (after ops V (Proc.devRef .tc main_v24) : S2x1000000.Idx → EReal)
        (constant S_ .f32 0xFF800000#32) Gen.reducesTo_S2x1000000_S1000000_d0 Gen.h_S_ := by
  rw [cut 295 V]
  generalize after (ops.take 295) V = V'
  after_reads_at

/-- The exponential at an index, from contents before its operations. -/
theorem weight_of (V' : Valuation τ sig (Elt Ideal)) (j : S2x1000000.Idx) :
    (after (ops.drop 297) V' (Proc.devRef .tc main_v31) j : EReal)
      = FloatOps.hostUnary (F := Ideal) (φ := .f32) HostUnaryOp.exp (FloatOps.subf (V' (Proc.devRef .tc main_v24) j)
          (FloatOps.maximumf (FloatOps.ofBits .f32 0xFF800000#32) (V' (Proc.devRef .tc main_v25) (ix1 (j 1))))) := by
  after_reads_at

/-- The exponential of a score less its column's greatest. -/
theorem weight (j : S2x1000000.Idx) : (after ops V (Proc.devRef .tc main_v31) j : EReal)
    = FloatOps.hostUnary (F := Ideal) (φ := .f32) HostUnaryOp.exp (FloatOps.subf (after ops V (Proc.devRef .tc main_v24) j)
        (FloatOps.maximumf (FloatOps.ofBits .f32 0xFF800000#32) (after ops V (Proc.devRef .tc main_v25) (ix1 (j 1))))) := by
  have h1 := kept V (n := 297) (b := Proc.devRef .tc main_v24) (fun V' => by after_reads_at)
  have h2 := kept V (n := 297) (b := Proc.devRef .tc main_v25) (fun V' => by after_reads_at)
  have h := weight_of (after (ops.take 297) V) j
  rw [h1, h2, ← cut] at h
  exact h

/-- The columns' sums of those. -/
theorem total : after ops V (Proc.devRef .tc main_v32)
    = Host.reduceAdd (F := Ideal) (φ := .f32) (after ops V (Proc.devRef .tc main_v31) : S2x1000000.Idx → EReal)
        (constant S_ .f32 0#32) Gen.reducesTo_S2x1000000_S1000000_d0 Gen.h_S_ := by
  rw [cut 304 V]
  generalize after (ops.take 304) V = V'
  after_reads_at

/-- The soft choice at an index, from contents before its operations. -/
theorem soft_of (V' : Valuation τ sig (Elt Ideal)) (j : S2x1000000.Idx) :
    (after (ops.drop 306) V' (Proc.devRef .tc main_v35) j : EReal)
      = FloatOps.hostDivf (F := Ideal) (φ := .f32) (V' (Proc.devRef .tc main_v31) j)
          (V' (Proc.devRef .tc main_v32) (ix1 (j 1))) := by
  after_reads_at

/-- The soft choice: each exponential over its column's sum. -/
theorem soft (j : S2x1000000.Idx) : (after ops V (Proc.devRef .tc main_v35) j : EReal)
    = FloatOps.hostDivf (F := Ideal) (φ := .f32) (after ops V (Proc.devRef .tc main_v31) j)
        (after ops V (Proc.devRef .tc main_v32) (ix1 (j 1))) := by
  have h1 := kept V (n := 306) (b := Proc.devRef .tc main_v31) (fun V' => by after_reads_at)
  have h2 := kept V (n := 306) (b := Proc.devRef .tc main_v32) (fun V' => by after_reads_at)
  have h := soft_of (after (ops.take 306) V) j
  rw [h1, h2, ← cut] at h
  exact h

/-- The hard choice: each column's row of the greatest soft choice. -/
theorem hard : after ops V (Proc.devRef .tc main_v36)
    = fun j => (Host.argReduce (reducer_argmax_f32_i32 (F := Ideal)) (after ops V (Proc.devRef .tc main_v35) : S2x1000000.Idx → EReal)
        (iotaInDim S2x1000000 32 0) (constant S_ .f32 0xFF800000#32) (constantI S_ 32 0#32)
        Gen.reducesTo_S2x1000000_S1000000_d0 Gen.h_S_ j).2 := by
  rw [cut 309 V]
  generalize after (ops.take 309) V = V'
  after_reads_at

/-- The result at an index, from contents before its operations. -/
theorem result_of (V' : Valuation τ sig (Elt Ideal)) (j : S1000000.Idx) :
    (after (ops.drop 314) V' (Proc.devRef .tc main_v41) j : EReal)
      = FloatOps.addf (F := Ideal) (φ := .f32)
          (FloatOps.subf (FloatOps.uitofp .f32 (IntOp.cmpi .eq (V' (Proc.devRef .tc main_v36) j : BitVec 32) 0#32))
            (V' (Proc.devRef .tc main_v35) (ix2 0 (j 0))))
          (V' (Proc.devRef .tc main_v35) (ix2 0 (j 0))) := by
  after_reads_at

/-- The result: one or zero by the hard choice, less the soft choice, plus it. -/
theorem result (j : S1000000.Idx) : (after ops V (Proc.devRef .tc main_v41) j : EReal)
    = FloatOps.addf (F := Ideal) (φ := .f32)
        (FloatOps.subf (FloatOps.uitofp .f32 (IntOp.cmpi .eq (after ops V (Proc.devRef .tc main_v36) j : BitVec 32) 0#32))
          (after ops V (Proc.devRef .tc main_v35) (ix2 0 (j 0))))
        (after ops V (Proc.devRef .tc main_v35) (ix2 0 (j 0))) := by
  have h1 := kept V (n := 314) (b := Proc.devRef .tc main_v36) (fun V' => by after_reads_at)
  have h2 := kept V (n := 314) (b := Proc.devRef .tc main_v35) (fun V' => by after_reads_at)
  have h := result_of (after (ops.take 314) V) j
  rw [h1, h2, ← cut] at h
  exact h

end Cert.ReferenceIdeal.Line

end
-- ==== Proof.RefWords.lean ====
/-
  The reference's noise words: at row `r` and element `j`, the generator's word at counter `1000000 r + j`.
-/
module

public import proofs.«01_k».proof.Proof.RefLine
public import proofs.«01_k».proof.Proof.Words

@[expose] public section

noncomputable section

namespace Cert.ReferenceIdeal.Line

open Cert.Words
open Idealize.ShloMosaic Idealize.SL.Sem Idealize.ShloMosaic.StableHlo

/-- The key's words and their derived third word. -/
def key0 : W := IntOp.shrui .host 42#32 32#32
def key1 : W := IntOp.andi 42#32 4294967295#32
def key2 : W := IntOp.xori (IntOp.xori key0 key1) 466688986#32

/-- The counter at an index of the two rows, a 64-bit word, -/
def counter (j : S2x1000000.Idx) : BitVec 64 :=
  IntOp.addi (IntOp.muli 1000000#64 (BitVec.ofNat 64 (j 0).val)) (IntOp.muli 1#64 (BitVec.ofNat 64 (j 1).val))
/-- and the pair of words that the first round takes. -/
def start (j : S2x1000000.Idx) : W × W :=
  (IntOp.addi (BitVec.setWidth 32 (IntOp.shrui .host (counter j) 32#64)) key0, IntOp.addi (BitVec.setWidth 32 (counter j)) key1)

set_option maxRecDepth 100000 in
set_option maxHeartbeats 4000000 in
/-- The generator's word at an index: the exclusive-or of the pair that the rounds leave. -/
theorem word (V : Valuation τ sig (Elt Ideal)) (j : S2x1000000.Idx) :
    (after ops V (Proc.devRef .tc main_call0_v20) j : W)
      = IntOp.xori (tail mixH key0 key1 key2 (mixH 13#32 19#32 (start j))).1
          (tail mixH key0 key1 key2 (mixH 13#32 19#32 (start j))).2 := by
  after_reads_at
  after_reads_at
  simp only [tail, mixH, inj, rotH, start, counter, key0, key1, key2]
  rfl

theorem key0_eq : key0 = 0#32 := by decide
theorem key1_eq : key1 = 42#32 := by decide
theorem key2_eq : key2 = 466689008#32 := by decide

/-- The counters are below two million, so their high words are zero and the low words are the counters. -/
theorem start_eq (j : S2x1000000.Idx) :
    start j = (0#32, IntOp.addi (BitVec.ofNat 32 (1000000 * (j 0).val + (j 1).val)) 42#32) := by
  have h0 : (j 0).val < 2 := (j 0).isLt
  have h1 : (j 1).val < 1000000 := (j 1).isLt
  have hc : counter j = BitVec.ofNat 64 (1000000 * (j 0).val + (j 1).val) := by
    unfold counter IntOp.addi IntOp.muli
    apply BitVec.eq_of_toNat_eq
    simp only [BitVec.toNat_add, BitVec.toNat_mul, BitVec.toNat_ofNat]
    omega
  unfold start
  rw [hc, key0_eq, key1_eq]
  refine Prod.ext ?_ ?_
  · show IntOp.addi _ _ = _
    unfold IntOp.addi IntOp.shrui
    rw [if_pos (by decide)]
    apply BitVec.eq_of_toNat_eq
    simp only [BitVec.toNat_add, BitVec.toNat_setWidth, BitVec.toNat_ushiftRight, BitVec.toNat_ofNat, BitVec.ushiftRight_eq',
      Nat.shiftRight_eq_div_pow]
    have hX : 1000000 * (j 0).val + (j 1).val < 4294967296 := by omega
    rw [Nat.mod_eq_of_lt (by omega : 1000000 * (j 0).val + (j 1).val < 2 ^ 64), show 2 ^ (32 % 2 ^ 64) = 4294967296 by norm_num,
      Nat.div_eq_of_lt hX]
  · show IntOp.addi _ _ = _
    congr 1
    apply BitVec.eq_of_toNat_eq
    simp only [BitVec.toNat_setWidth, BitVec.toNat_ofNat]
    omega

/-- So the word is the generator's at the index's counter. -/
theorem word_eq (V : Valuation τ sig (Elt Ideal)) (j : S2x1000000.Idx) :
    (after ops V (Proc.devRef .tc main_call0_v20) j : W)
      = noise (IntOp.addi (BitVec.ofNat 32 (1000000 * (j 0).val + (j 1).val)) 42#32) := by
  rw [word, key0_eq, key1_eq, key2_eq, start_eq]
  unfold noise mixH
  simp only [IntOp.addi, BitVec.zero_add]

end Cert.ReferenceIdeal.Line

end
-- ==== Proof.RefColumns.lean ====
/-
  The reference's three folds down the columns of a two-row array — the greatest element, the sum and the place of the
  greatest — as expressions in a column's two elements.
-/
module

public import proofs.«01_k».proof.Proof.RefLine
public import Idealize.ShloMosaic.Lib.IdealHost

@[expose] public section

noncomputable section

namespace Cert.ReferenceIdeal.Columns

open Idealize.ShloMosaic

/-- The numbers below `n` at which a predicate true at exactly `a < b` holds are, in order, `a` and `b`. -/
theorem filter_pair {n : Nat} {a b : Fin n} (hab : a < b) (p : Fin n → Bool) (hp : ∀ k, p k = true ↔ k = a ∨ k = b) :
    (List.finRange n).filter p = [a, b] := by
  have hs : ((List.finRange n).filter p).Pairwise (· < ·) := (List.pairwise_lt_finRange n).filter _
  have ht : [a, b].Pairwise (· < ·) := by simpa using hab
  refine List.Perm.eq_of_pairwise (fun x y _ _ h h' => absurd h (lt_asymm h')) hs ht ?_
  refine (List.perm_ext_iff_of_nodup (hs.imp ne_of_lt) (ht.imp ne_of_lt)).2 fun k => ?_
  simp [hp]

/-- The index of column `j`'s element in row `r`. -/
def cell (r : Fin 2) (j : S1000000.Idx) : S2x1000000.Idx := ix2 r (j 0)

variable (h : S2x1000000.ReducesTo [0] S1000000)

/-- Exactly the two elements of a column fold into it. -/
theorem drop_iff (i : S2x1000000.Idx) (j : S1000000.Idx) :
    h.drop i = j ↔ i = cell 0 j ∨ i = cell 1 j := by
  have hv : (h.drop i 0 : Nat) = i 1 := h.drop_apply_val_of_eq i 0 1
  have hj : h.drop i = j ↔ i 1 = j 0 :=
    ⟨fun e => Fin.ext (by rw [← hv, e]), fun e => funext fun | ⟨0, _⟩ => Fin.ext (hv.trans (congrArg Fin.val e))⟩
  have h2 : i 0 = (0 : Fin 2) ∨ i 0 = (1 : Fin 2) := by
    have := (i 0).isLt
    change (i 0).val < 2 at this
    rcases Nat.lt_or_ge (i 0).val 1 with l | l
    · exact .inl (Fin.ext (by change (i 0).val = 0; omega))
    · exact .inr (Fin.ext (by change (i 0).val = 1; omega))
  rw [hj]
  constructor
  · intro e
    rcases h2 with h2 | h2
    · exact .inl (funext fun | ⟨0, _⟩ => h2 | ⟨1, _⟩ => e)
    · exact .inr (funext fun | ⟨0, _⟩ => h2 | ⟨1, _⟩ => e)
  · rintro (e | e) <;> rw [e] <;> rfl

/-- In row-major order they are the first row's and then the second's. -/
theorem fiber (j : S1000000.Idx) :
    ((List.finRange S2x1000000.numel).filter fun n => h.drop (S2x1000000.rowMajor.symm n) = j)
      = [S2x1000000.rowMajor (cell 0 j), S2x1000000.rowMajor (cell 1 j)] := by
  refine filter_pair ?_ _ fun k => ?_
  · rw [Fin.lt_def, Shape.rowMajor_val_two, Shape.rowMajor_val_two]
    have := (j 0).isLt
    change 0 * 1000000 + (j 0).val < 1 * 1000000 + (j 0).val
    omega
  · rw [decide_eq_true_iff, drop_iff, Equiv.symm_apply_eq, Equiv.symm_apply_eq]

/-- The greatest of a column, from minus infinity. -/
theorem reduce_max (x : S2x1000000.Idx → EReal) (init : S_.Idx → EReal) (hu : 0 < S_.numel) (j : S1000000.Idx) :
    Host.reduce (FloatOps.maximumf (F := Ideal) (φ := .f32)) x init h hu j
      = max (max (init (Shape.Idx.first hu)) (x (cell 0 j))) (x (cell 1 j)) := by
  rw [Host.reduce_eq_foldl, List.filter_map]
  have := fiber h j
  simp only [Function.comp_def]
  rw [this]
  simp

/-- The sum of a column. -/
theorem reduce_add (x : S2x1000000.Idx → EReal) (init : S_.Idx → EReal) (hu : 0 < S_.numel) (j : S1000000.Idx) :
    Host.reduceAdd (F := Ideal) (φ := .f32) x init h hu j
      = init (Shape.Idx.first hu) + (x (cell 0 j) + x (cell 1 j)) := by
  rw [ValueIdx.hostReduceAdd_apply, Ideal.hostReduceAdd]
  have : (Finset.univ.filter fun i => h.drop i = j) = {cell 0 j, cell 1 j} := by
    ext i
    simp [drop_iff]
  rw [this, Finset.sum_pair]
  intro e
  have := congrArg Fin.val (congrFun e 0)
  exact Nat.zero_ne_one this

/-- Of a pair's two places the first where its element is not the smaller, else the second. -/
theorem reducer_snd (a b : EReal) :
    (reducer_argmax_f32_i32 (F := Ideal) (reducer_argmax_f32_i32 (F := Ideal) (⊥, 0#32) (a, 0#32)) (b, 1#32)).2
      = if b ≤ a then 0#32 else 1#32 := by
  have one : reducer_argmax_f32_i32 (F := Ideal) (⊥, 0#32) (a, 0#32) = (a, 0#32) := by
    simp [reducer_argmax_f32_i32, Ideal.cmpf_def, Ideal.cmp, IntOp.ori, IntOp.andi, IntOp.cmpi, Scalar.select]
  rw [one]
  rcases lt_trichotomy b a with l | l | l
  · simp [reducer_argmax_f32_i32, Ideal.cmpf_def, Ideal.cmp, IntOp.ori, IntOp.andi, IntOp.cmpi, Scalar.select, l, l.le, l.ne']
  · simp [reducer_argmax_f32_i32, Ideal.cmpf_def, Ideal.cmp, IntOp.ori, IntOp.andi, IntOp.cmpi, Scalar.select, l]
  · simp [reducer_argmax_f32_i32, Ideal.cmpf_def, Ideal.cmp, IntOp.ori, IntOp.andi, IntOp.cmpi, Scalar.select, l.not_ge, l.le, l.ne, l.not_gt]

/-- The row of a column's greatest element, the first row on a tie. -/
theorem argmax (x : S2x1000000.Idx → EReal) (ix : S_.Idx → EReal) (hu : 0 < S_.numel)
    (hi : ix (Shape.Idx.first hu) = ⊥) (j : S1000000.Idx) :
    (Host.argReduce (reducer_argmax_f32_i32 (F := Ideal)) x (iotaInDim S2x1000000 32 0) ix (constantI S_ 32 0#32) h hu j).2
      = if x (cell 1 j) ≤ x (cell 0 j) then 0#32 else 1#32 := by
  rw [Ideal.argReduce_eq_reduce2, Host.reduce2_eq_foldl_fiber, Host.argReduceFiber, fiber]
  simp only [List.map_cons, List.map_nil, List.foldl_cons, List.foldl_nil, Equiv.symm_apply_apply, hi]
  exact reducer_snd _ _

end Cert.ReferenceIdeal.Columns

end
-- ==== Proof.RefValue.lean ====
/-
  What the reference leaves at an index where its argument is a real number: the choice from the argument and the words
  at the index's two counters.
-/
module

public import proofs.«01_k».proof.Proof.RefStages
public import proofs.«01_k».proof.Proof.RefWords
public import proofs.«01_k».proof.Proof.RefColumns
public import proofs.«01_k».proof.Proof.Uniform

@[expose] public section

noncomputable section

namespace Cert.ReferenceIdeal.Value

open Cert.ReferenceIdeal.Line Cert.ReferenceIdeal.Columns Cert.Words
open Idealize.ShloMosaic Idealize.SL.Sem Idealize.ShloMosaic.StableHlo

variable (V : Valuation τ sig (Elt Ideal))

/-- The number as the reference computes it from a word — scaled from zero up to one and not below zero — and kept from
    below the smallest normal number, is the word's uniform number. -/
theorem draw_eq (w : BitVec 32) :
    max (max (Ideal.ofBits .f32 0#32)
        ((Ideal.ofBits .f32 (w >>> 9 ||| 0x3F800000#32) - Ideal.ofBits .f32 0x3F800000#32)
          * (Ideal.ofBits .f32 0x3F800000#32 - Ideal.ofBits .f32 0#32) + Ideal.ofBits .f32 0#32))
        (Ideal.ofBits .f32 0x00800000#32)
      = Uniform.draw w := by
  obtain ⟨r, h0, -, h⟩ := Uniform.mantissa w
  rw [Uniform.draw, Ideal.ofBits_zero_f32, Ideal.ofBits_one_f32, sub_zero, mul_one, add_zero, max_eq_right (a := 0)]
  rw [h, ← EReal.coe_one, ← EReal.coe_sub, add_sub_cancel_left]
  exact_mod_cast h0

/-- The uniform number at a row and column, kept from below the smallest normal number. -/
theorem uniform_eq (i : S2x1000000.Idx) :
    @max EReal _ (after ops V (Proc.devRef .tc main_v15) i) (Ideal.ofBits .f32 0x00800000#32)
      = Uniform.draw (noise (IntOp.addi (BitVec.ofNat 32 (1000000 * (i 0).val + (i 1).val)) 42#32)) := by
  rw [uniform, word_eq, ← draw_eq]
  rw [show ∀ x : BitVec 32, IntOp.shrui .host x 9#32 = x >>> 9 from fun x => if_pos (by decide)]
  simp only [Ideal.maximumf_def, Ideal.addf_def, Ideal.mulf_def, Ideal.subf_def, Ideal.ofBits_def, IntOp.ori]

/-- The score at a row and column from its log-probability's argument. -/
theorem score_eq (i : S2x1000000.Idx) (p : EReal)
    (hp : (after ops V (Proc.devRef .tc main_v7) i : EReal) = Ideal.log p) :
    (after ops V (Proc.devRef .tc main_v24) i : EReal)
      = Gumbel.score p (Ideal.log (Uniform.draw (noise (IntOp.addi (BitVec.ofNat 32 (1000000 * (i 0).val + (i 1).val)) 42#32))))
          (Ideal.ofBits .f32 0x3DCCCCCD#32) := by
  rw [score, hp, Gumbel.score, ← uniform_eq V]
  simp only [Ideal.maximumf_def, Ideal.addf_def, Ideal.hostDivf_def, Ideal.hostNegf_def, Ideal.negf_def,
    Ideal.hostUnary_log_def, Ideal.ofBits_def]

/-- An index of a column is the column's number's index. -/
theorem eta (j : S1000000.Idx) : (ix1 (j 0) : S1000000.Idx) = j := funext fun | ⟨0, _⟩ => rfl

/-- The exponential at a row of a column, from the column's scores. -/
theorem weight_eq (r : Fin 2) (j : S1000000.Idx) (y : Fin 2 → EReal)
    (hy : ∀ r, (after ops V (Proc.devRef .tc main_v24) (cell r j) : EReal) = y r) :
    (after ops V (Proc.devRef .tc main_v31) (cell r j) : EReal)
      = Ideal.exp (y r - max ⊥ (max (max ⊥ (y 0)) (y 1))) := by
  have g : (after ops V (Proc.devRef .tc main_v25) j : EReal) = max (max ⊥ (y 0)) (y 1) := by
    rw [greatest, reduce_max, hy, hy]
    exact congrArg (fun z => max (max z (y 0)) (y 1)) Uniform.bot
  have e : (ix1 (cell r j 1) : S1000000.Idx) = j := eta j
  rw [weight, hy, e, g]
  simp only [Ideal.hostUnary_exp_def, Ideal.subf_def, Ideal.maximumf_def, Ideal.ofBits_def, Uniform.bot]

/-- The soft choice at a row of a column, from the column's scores. -/
theorem soft_eq (r : Fin 2) (j : S1000000.Idx) (y : Fin 2 → EReal)
    (hy : ∀ r, (after ops V (Proc.devRef .tc main_v24) (cell r j) : EReal) = y r) :
    (after ops V (Proc.devRef .tc main_v35) (cell r j) : EReal)
      = Ideal.div (Ideal.exp (y r - max ⊥ (max (max ⊥ (y 0)) (y 1))))
          (0 + (Ideal.exp (y 0 - max ⊥ (max (max ⊥ (y 0)) (y 1))) + Ideal.exp (y 1 - max ⊥ (max (max ⊥ (y 0)) (y 1))))) := by
  have g : (after ops V (Proc.devRef .tc main_v32) j : EReal)
      = 0 + (Ideal.exp (y 0 - max ⊥ (max (max ⊥ (y 0)) (y 1))) + Ideal.exp (y 1 - max ⊥ (max (max ⊥ (y 0)) (y 1)))) := by
    rw [total, reduce_add, weight_eq V 0 j y hy, weight_eq V 1 j y hy]
    exact congrArg (· + _) Ideal.ofBits_zero_f32
  have e : (ix1 (cell r j 1) : S1000000.Idx) = j := eta j
  rw [soft, weight_eq V r j y hy, e, g, Ideal.hostDivf_def]

/-- The number one or zero of the test whether a choice between the words zero and one came out zero. -/
theorem one_zero (P : Prop) [Decidable P] :
    (FloatOps.uitofp (F := Ideal) .f32 (IntOp.cmpi .eq (if P then 0#32 else 1#32) 0#32) : EReal) = if P then 1 else 0 := by
  by_cases h : P
  · rw [if_pos h, if_pos h]
    change (((1 : Nat) : ℝ) : EReal) = 1
    norm_num
  · rw [if_neg h, if_neg h]
    change (((0 : Nat) : ℝ) : EReal) = 0
    norm_num

/-- The result at a column, from the column's scores. -/
theorem result_eq (j : S1000000.Idx) (y : Fin 2 → EReal)
    (hy : ∀ r, (after ops V (Proc.devRef .tc main_v24) (cell r j) : EReal) = y r) :
    (after ops V (Proc.devRef .tc main_v41) j : EReal) = Gumbel.choice (y 0) (y 1) := by
  have s0 := soft_eq V 0 j y hy
  have s1 := soft_eq V 1 j y hy
  have hb : (constant (F := Ideal) S_ .f32 0xFF800000#32) (Shape.Idx.first Gen.h_S_) = ⊥ := Uniform.bot
  have c : (after ops V (Proc.devRef .tc main_v36) j : BitVec 32)
      = if @LE.le EReal _ (after ops V (Proc.devRef .tc main_v35) (cell 1 j)) (after ops V (Proc.devRef .tc main_v35) (cell 0 j))
          then 0#32 else 1#32 :=
    (congrFun (hard V) j).trans (argmax Gen.reducesTo_S2x1000000_S1000000_d0 _ _ Gen.h_S_ hb j)
  rw [s0, s1] at c
  have e := result V j
  rw [c] at e
  refine e.trans ?_
  rw [show (after ops V (Proc.devRef .tc main_v35) (ix2 0 (j 0)) : EReal) = _ from s0, Gumbel.choice, one_zero]
  simp only [Ideal.addf_def, Ideal.subf_def]

/-- The result at an index where the argument is a real number. -/
theorem value (j : S1000000.Idx) (q : ℝ) (hq : @Eq EReal (V (Proc.devRef .tc main_arg0) j) q) :
    (after ops V (Proc.devRef .tc main_v41) j : EReal)
      = Uniform.decision q (noise (IntOp.addi (BitVec.ofNat 32 (j 0).val) 42#32))
          (noise (IntOp.addi (IntOp.addi (BitVec.ofNat 32 (j 0).val) 42#32) 1000000#32)) := by
  have w0 : BitVec.ofNat 32 (1000000 * ((cell 0 j) 0).val + ((cell 0 j) 1).val) = BitVec.ofNat 32 (j 0).val :=
    congrArg (BitVec.ofNat 32) (by change 1000000 * 0 + (j 0).val = (j 0).val; omega)
  have w1 : IntOp.addi (BitVec.ofNat 32 (1000000 * ((cell 1 j) 0).val + ((cell 1 j) 1).val)) 42#32
      = IntOp.addi (IntOp.addi (BitVec.ofNat 32 (j 0).val) 42#32) 1000000#32 := by
    change BitVec.ofNat 32 (1000000 * 1 + (j 0).val) + BitVec.ofNat 32 42
      = BitVec.ofNat 32 (j 0).val + BitVec.ofNat 32 42 + BitVec.ofNat 32 1000000
    simp only [← BitVec.ofNat_add]
    congr 1
    omega
  have hq' : @Eq EReal (V (Proc.devRef .tc main_arg0) (ix1 (j 0))) q := (congrArg (V (Proc.devRef .tc main_arg0)) (eta j)).trans hq
  have l0 : (after ops V (Proc.devRef .tc main_v7) (cell 0 j) : EReal)
      = Ideal.log ((1 - (q : EReal)) + Ideal.ofBits .f32 0x26901D7D#32) := by
    refine (logProb_zero V (j 0)).trans ?_
    rw [show @Eq EReal (V (Proc.devRef .tc main_arg0) (ix1 (j 0))) q from hq']
    simp only [Ideal.hostUnary_log_def, Ideal.addf_def, Ideal.subf_def, Ideal.ofBits_def, Ideal.ofBits_one_f32]
  have l1 : (after ops V (Proc.devRef .tc main_v7) (cell 1 j) : EReal)
      = Ideal.log ((q : EReal) + Ideal.ofBits .f32 0x26901D7D#32) := by
    refine (logProb_one V (j 0)).trans ?_
    rw [show @Eq EReal (V (Proc.devRef .tc main_arg0) (ix1 (j 0))) q from hq']
    simp only [Ideal.hostUnary_log_def, Ideal.addf_def, Ideal.ofBits_def]
  have y0 := score_eq V (cell 0 j) _ l0
  have y1 := score_eq V (cell 1 j) _ l1
  rw [w0] at y0
  rw [w1] at y1
  obtain ⟨t0, h0, e0⟩ := Uniform.log_draw (noise (IntOp.addi (BitVec.ofNat 32 (j 0).val) 42#32))
  obtain ⟨t1, h1, e1⟩ := Uniform.log_draw (noise (IntOp.addi (IntOp.addi (BitVec.ofNat 32 (j 0).val) 42#32) 1000000#32))
  obtain ⟨τ, hτ, eτ⟩ := Uniform.tau
  obtain ⟨e, he, ee⟩ := Uniform.eps
  have p0 : (1 - (q : EReal)) + (e : EReal) = ((1 - q + e : ℝ) : EReal) := by push_cast; rfl
  have p1 : (q : EReal) + (e : EReal) = ((q + e : ℝ) : EReal) := by push_cast; rfl
  rw [e0, eτ, ee, p0] at y0
  rw [e1, eτ, ee, p1] at y1
  rw [result_eq V j (fun r => after ops V (Proc.devRef .tc main_v24) (cell r j)) (fun _ => rfl)]
  dsimp only
  rw [y0, y1, Gumbel.choice_eq (by linarith) h0 h1 hτ, Uniform.decision, e0, e1, ee, p0, p1]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Run
public import proofs.«01_k».proof.Proof.RefLine
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Idealize.ShloMosaic.StableHlo

/-- The kernel as printed terminates with its argument unchanged and every counter at zero. -/
theorem kernel_frame : Cert.quiescent_Kernel := fun m g _ =>
  (θ_run Cert.Kernel.defs _ _).mono (fun _ h => ⟨fun c => (h.1 c).1, h.2⟩) (Cert.Kernel.Run.run m g)

/-- So does the kernel over the extended reals. -/
theorem ideal_frame : Cert.quiescent_KernelIdeal := fun m g _ =>
  (θ_run Cert.KernelIdeal.defs _ _).mono (fun _ h => ⟨fun c => (h.1 c).1, h.2⟩) (Cert.KernelIdeal.Run.run m g)

/-- So does the reference. -/
theorem reference_frame : Cert.quiescent_ReferenceIdeal := fun m g _ =>
  (θ_run Cert.ReferenceIdeal.defs _ _).mono
    (fun _ h => ⟨fun c => (h.1 c _).trans (Cert.ReferenceIdeal.Line.arg_unwritten _), h.2⟩) (Cert.ReferenceIdeal.Line.run m g)

/-- The shape condition of the precondition's one broadcast. -/
theorem pre_facts : Cert.Pre_finite_probs.Facts := ⟨by decide⟩

/-- The kernel over the extended reals, where every argument is a real number: as without that condition. -/
theorem ideal_frame_pre : Cert.quiescent_KernelIdeal_pre_finite_probs (hPre_finite_probs := pre_facts) :=
  fun m g _ => ideal_frame m g trivial

/-- The reference likewise. -/
theorem reference_frame_pre : Cert.quiescent_ReferenceIdeal_pre_finite_probs (hPre_finite_probs := pre_facts) :=
  fun m g _ => reference_frame m g trivial

/-- An extended real whose absolute value is below plus infinity is a real number. -/
theorem real_of_abs_lt (x : EReal) (h : Ideal.cmp .olt (max x (-x)) (Ideal.ofBits .f32 0x7F800000#32) = 1#1) :
    ∃ q : ℝ, x = q := by
  rw [Cert.Uniform.top] at h
  induction x using EReal.rec with
  | bot => simp [Ideal.cmp] at h
  | coe q => exact ⟨q, rfl⟩
  | top => simp [Ideal.cmp] at h

/-- Under the precondition every argument is a real number. -/
theorem real_of_pre [Cert.Pre_finite_probs.Facts] (x : FVec Ideal Cert.Pre_finite_probs.S1000000 .f32)
    (h : Cert.Pre_finite_probs.fn (F := Ideal) x = fun _ => 1#1) (j : Cert.Pre_finite_probs.S1000000.Idx) :
    ∃ q : ℝ, @Eq EReal (x j) q :=
  real_of_abs_lt _ (congrFun h j)

/-- From equal arguments, all of them real numbers, the kernel and the reference leave equal results. -/
theorem algebraic :
    Cert.algebraic_KernelIdeal_ReferenceIdeal_pre_finite_probs (hPre_finite_probs := pre_facts) := by
  intro m g m' g' hpre hm
  refine ⟨Cert.KernelIdeal.Run.kernelOut m, ?_, ?_⟩
  · exact (θ_run Cert.KernelIdeal.defs _ _).mono (fun _ h c => ⟨(h.1 c).2, (h.1 c).1⟩) (Cert.KernelIdeal.Run.run m g)
  · refine (θ_run Cert.ReferenceIdeal.defs _ _).mono (fun _ h c => ⟨?_, ?_⟩) (Cert.ReferenceIdeal.Line.run m' g')
    · refine (h.1 c _).trans (funext fun j => ?_)
      obtain ⟨q, hq⟩ := @real_of_pre pre_facts _ (hpre c) j
      refine (Cert.ReferenceIdeal.Value.value _ j q ((congrFun (hm c) j).trans hq)).trans ?_
      refine (Cert.KernelIdeal.Value.value j q).symm.trans ?_
      exact congrArg _ hq.symm
    · exact (h.1 c _).trans (Cert.ReferenceIdeal.Line.arg_unwritten _)

theorem claim : Cert.Claim := ⟨Cert.Kernel.Gen.facts, Cert.KernelIdeal.Gen.facts, Cert.ReferenceIdeal.Gen.facts, pre_facts,
  kernel_frame, ideal_frame, ideal_frame_pre, reference_frame, reference_frame_pre, trivial, algebraic⟩

end Cert.Proof

end
